-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S16384x256 : Shape := ⟨2, ![16384, 256]⟩
abbrev S256x512 : Shape := ⟨2, ![256, 512]⟩
abbrev S512 : Shape := ⟨1, ![512]⟩
abbrev S512x512 : Shape := ⟨2, ![512, 512]⟩
abbrev S500x512 : Shape := ⟨2, ![500, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S500x512 : S_.BroadcastsInDim S500x512 (![] : Fin 0 → Fin S500x512.rank)
  reducesTo_S500x512_S_d0_1 : S500x512.ReducesTo [0, 1] S_

variable [Facts]

def fn_part1 {F : FTy → Type} [FloatOps F] (main_arg4 : FVec F S512 .f32) (main_arg5 : FVec F S500x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x447A0000#32
  let main_v20 : FVec F S512 .f32 := broadcastInDim S512 ![] bcast_S_S512 main_cst_6
  let main_v21 : IVec S512 1 := cmpf .ole main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S500x512 .f32 := Host.absf main_arg5
  let main_cst_8 : FVec F S_ .f32 := constant S_ .f32 0x447A0000#32
  let main_v25 : FVec F S500x512 .f32 := broadcastInDim S500x512 ![] bcast_S_S500x512 main_cst_8
  let main_v26 : IVec S500x512 1 := cmpf .ole main_v24 main_v25
  let main_c_9 : IVec S_ 1 := constantI S_ 1 1#1
  let main_v27 : IVec S_ 1 := (fun x v => Host.reduce IntOp.andi x v reducesTo_S500x512_S_d0_1 h_S_) main_v26 main_c_9
  let main_v28 : IVec S_ 1 := andi main_v23 main_v27
  main_v28

def fn {F : FTy → Type} [FloatOps F] (main_arg0 : FVec F S16384x256 .f32) (main_arg1 : FVec F S256x512 .f32) (main_arg2 : FVec F S512 .f32) (main_arg3 : FVec F S512x512 .f32) (main_arg4 : FVec F S512 .f32) (main_arg5 : FVec F S500x512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x512 .f32 := Host.absf main_arg1
  let main_cst_0 : FVec F S_ .f32 := constant S_ .f32 0x447A0000#32
  let main_v5 : FVec F S256x512 .f32 := broadcastInDim S256x512 ![] bcast_S_S256x512 main_cst_0
  let main_v6 : IVec S256x512 1 := cmpf .ole main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x447A0000#32
  let main_v10 : FVec F S512 .f32 := broadcastInDim S512 ![] bcast_S_S512 main_cst_2
  let main_v11 : IVec S512 1 := cmpf .ole main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x447A0000#32
  let main_v15 : FVec F S512x512 .f32 := broadcastInDim S512x512 ![] bcast_S_S512x512 main_cst_4
  let main_v16 : IVec S512x512 1 := cmpf .ole main_v14 main_v15
  fn_part1 (F := F) main_arg4 main_arg5 main_v13 main_v16
-- ==== Kernel.lean ====
abbrev S16384x256 : Shape := ⟨2, ![16384, 256]⟩
abbrev S256x512 : Shape := ⟨2, ![256, 512]⟩
abbrev S512 : Shape := ⟨1, ![512]⟩
abbrev S512x512 : Shape := ⟨2, ![512, 512]⟩
abbrev S500x512 : Shape := ⟨2, ![500, 512]⟩
abbrev S_ : Shape := ⟨0, ![]⟩
abbrev S12x512 : Shape := ⟨2, ![12, 512]⟩
abbrev S1x512 : Shape := ⟨2, ![1, 512]⟩
abbrev S8x256 : Shape := ⟨2, ![8, 256]⟩
abbrev S2048x256 : Shape := ⟨2, ![2048, 256]⟩
abbrev S256 : Shape := ⟨1, ![256]⟩
abbrev S1x256 : Shape := ⟨2, ![1, 256]⟩
abbrev S6x256 : Shape := ⟨2, ![6, 256]⟩
abbrev S16384x1 : Shape := ⟨2, ![16384, 1]⟩
abbrev S512x256 : Shape := ⟨2, ![512, 256]⟩
abbrev S512x1 : Shape := ⟨2, ![512, 1]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S16384x256, .f32⟩
  | .hbm, ⟨1, _⟩ => ⟨S256x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S500x512, .f32⟩
  | .hbm, ⟨6, _⟩ => ⟨S_, .f32⟩
  | .hbm, ⟨7, _⟩ => ⟨S12x512, .f32⟩
  | .hbm, ⟨8, _⟩ => ⟨S512x512, .f32⟩
  | .hbm, ⟨9, _⟩ => ⟨S1x512, .f32⟩
  | .hbm, ⟨10, _⟩ => ⟨S1x512, .f32⟩
  | .hbm, ⟨11, _⟩ => ⟨S8x256, .f32⟩
  | .hbm, ⟨12, _⟩ => ⟨S16384x1, .f32⟩
  | .local _ .vmem, ⟨0, _⟩ => ⟨S2048x256, .f32⟩
  | .local _ .vmem, ⟨1, _⟩ => ⟨S2048x256, .f32⟩
  | .local _ .vmem, ⟨2, _⟩ => ⟨S8x256, .f32⟩
  | .local _ .vmem, ⟨3, _⟩ => ⟨S512x256, .f32⟩
  | .local _ .vmem, ⟨4, _⟩ => ⟨S512x256, .f32⟩
  | .local _ .vmem, ⟨5, _⟩ => ⟨S8x256, .f32⟩
  | .local _ .vmem, ⟨6, _⟩ => ⟨S256x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S512x1, .f32⟩
  | .local _ .vmem, ⟨12, _⟩ => ⟨S512x1, .f32⟩
  | .local _ .vmem, ⟨13, _⟩ => ⟨S256x512, .bf16⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S1x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg7_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem7_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_3 : BitVec 32 := 0#32
  let v10 : BitVec 1 := Scalar.cmpi .ne v9 c0_i32_3
  v10

def k0_cond2 (i : grid0.Coords) : BitVec 1 :=
  let arg0 : BitVec 32 := BitVec.ofNat 32 (i 0).val
  let c0_i32_4 : BitVec 32 := 0#32
  let v11 : BitVec 1 := Scalar.cmpi .ne arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S16384x256 : Shape := ⟨2, ![16384, 256]⟩
abbrev S256x512 : Shape := ⟨2, ![256, 512]⟩
abbrev S512 : Shape := ⟨1, ![512]⟩
abbrev S512x512 : Shape := ⟨2, ![512, 512]⟩
abbrev S500x512 : Shape := ⟨2, ![500, 512]⟩
abbrev S_ : Shape := ⟨0, ![]⟩
abbrev S256 : Shape := ⟨1, ![256]⟩
abbrev S1x256 : Shape := ⟨2, ![1, 256]⟩
abbrev S16384x512 : Shape := ⟨2, ![16384, 512]⟩
abbrev S1x512 : Shape := ⟨2, ![1, 512]⟩
abbrev S16384 : Shape := ⟨1, ![16384]⟩
abbrev S16384x1 : Shape := ⟨2, ![16384, 1]⟩
abbrev S500 : Shape := ⟨1, ![500]⟩
abbrev S1x500 : Shape := ⟨2, ![1, 500]⟩
abbrev S16384x500 : Shape := ⟨2, ![16384, 500]⟩
abbrev S512x500 : Shape := ⟨2, ![512, 500]⟩

abbrev nBuf : Space → Nat
  | .hbm => 111
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S500x512, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S_, .f32⟩
  | .hbm, ⟨13, _⟩ => ⟨S256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S1x256, .f32⟩
  | .hbm, ⟨67, _⟩ => ⟨S16384x256, .f32⟩
  | .hbm, ⟨68, _⟩ => ⟨S16384x256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S16384x256, .f32⟩
  | .hbm, ⟨75, _⟩ => ⟨S16384x256, .f32⟩
  | .hbm, ⟨76, _⟩ => ⟨S16384x512, .f32⟩
  | .hbm, ⟨77, _⟩ => ⟨S1x512, .f32⟩
  | .hbm, ⟨78, _⟩ => ⟨S16384x512, .f32⟩
  | .hbm, ⟨79, _⟩ => ⟨S16384x512, .f32⟩
  | .hbm, ⟨80, _⟩ => ⟨S_, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S1x512, .f32⟩
  | .hbm, ⟨85, _⟩ => ⟨S16384x512, .f32⟩
  | .hbm, ⟨86, _⟩ => ⟨S16384x512, .f32⟩
  | .hbm, ⟨87, _⟩ => ⟨S16384x512, .f32⟩
  | .hbm, ⟨88, _⟩ => ⟨S_, .f32⟩
  | .hbm, ⟨89, _⟩ => ⟨S16384, .f32⟩
  | .hbm, ⟨90, _⟩ => ⟨S16384x1, .f32⟩
  | .hbm, ⟨91, _⟩ => ⟨S500x512, .f32⟩
  | .hbm, ⟨92, _⟩ => ⟨S_, .f32⟩
  | .hbm, ⟨93, _⟩ => ⟨S500, .f32⟩
  | .hbm, ⟨94, _⟩ => ⟨S1x500, .f32⟩
  | .hbm, ⟨95, _⟩ => ⟨S16384x500, .f32⟩
  | .hbm, ⟨96, _⟩ => ⟨S16384x500, .f32⟩
  | .hbm, ⟨97, _⟩ => ⟨S16384x500, .f32⟩
  | .hbm, ⟨98, _⟩ => ⟨S512x500, .f32⟩
  | .hbm, ⟨99, _⟩ => ⟨S16384x500, .f32⟩
  | .hbm, ⟨100, _⟩ => ⟨S_, .f32⟩
  | .hbm, ⟨101, _⟩ => ⟨S16384x500, .f32⟩
  | .hbm, ⟨102, _⟩ => ⟨S16384x500, .f32⟩
  | .hbm, ⟨103, _⟩ => ⟨S16384x500, .f32⟩
  | .hbm, ⟨104, _⟩ => ⟨S_, .f32⟩
  | .hbm, ⟨105, _⟩ => ⟨S16384x500, .f32⟩
  | .hbm, ⟨106, _⟩ => ⟨S16384x500, .f32⟩
  | .hbm, ⟨107, _⟩ => ⟨S16384x500, .f32⟩
  | .hbm, ⟨108, _⟩ => ⟨S_, .f32⟩
  | .hbm, ⟨109, _⟩ => ⟨S16384, .f32⟩
  | .hbm, ⟨110, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_3 : Ref sig .tc := ⟨.hbm, 28, rfl⟩
abbrev main_call0_v12 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_v8 : Ref sig .tc := ⟨.hbm, 41, rfl⟩
abbrev main_v9 : Ref sig .tc := ⟨.hbm, 42, rfl⟩
abbrev main_cst_4 : Ref sig .tc := ⟨.hbm, 43, rfl⟩
abbrev main_v10 : Ref sig .tc := ⟨.hbm, 44, rfl⟩
abbrev main_v11 : Ref sig .tc := ⟨.hbm, 45, rfl⟩
abbrev main_cst_5 : Ref sig .tc := ⟨.hbm, 46, rfl⟩
abbrev main_v12 : Ref sig .tc := ⟨.hbm, 47, rfl⟩
abbrev main_v13 : Ref sig .tc := ⟨.hbm, 48, rfl⟩
abbrev main_cst_6 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_7 : Ref sig .tc := ⟨.hbm, 53, rfl⟩
abbrev main_v17 : Ref sig .tc := ⟨.hbm, 54, rfl⟩
abbrev main_v18 : Ref sig .tc := ⟨.hbm, 55, rfl⟩
abbrev main_cst_8 : Ref sig .tc := ⟨.hbm, 56, rfl⟩
abbrev main_v19 : Ref sig .tc := ⟨.hbm, 57, rfl⟩
abbrev main_v20 : Ref sig .tc := ⟨.hbm, 58, rfl⟩
abbrev main_cst_9 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_10 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_11 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call1_cst : Ref sig .tc := ⟨.hbm, 80, rfl⟩
abbrev main_call1_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_12 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_13 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_14 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_15 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_16 : Ref sig .tc := ⟨.hbm, 108, rfl⟩
abbrev main_v61 : Ref sig .tc := ⟨.hbm, 109, rfl⟩
abbrev main_v62 : Ref sig .tc := ⟨.hbm, 110, rfl⟩

abbrev nD : Nat := 1
abbrev τ : Topo := Topo.v7x

variable {F : FTy → Type} [FloatOps F]
-- ==== Proof.StatsBodyIdeal.lean ====
/- What one grid point of the statistics call does to its buffers, the two cases of its branches stated apart. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Call0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The block starts at the origin. -/
theorem origin2 : (![0, 0] : Fin 2 → ℕ) = fun _ => 0 := by decide

/-- At the first point the statistics block is stored afresh: the sums of the point's rows. -/
theorem body_first (c : Dev nD) (i : grid0.Coords) (arg1 : Memref sig .tc .vmem S2048x256 .f32) (harg1 : arg1.IsWhole)
    (arg2 : Memref sig .tc .vmem S8x256 .f32) (harg2 : arg2.IsWhole) (hc0 : k0_cond1 i = 1#1) (hc1 : ¬k0_cond2 i = 1#1)
    (x0 : Vec F S2048x256 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__stats_body i arg1 harg1 arg2 harg2) K := by
  simp only [cc0__stats_body_eq_skeleton]; unfold cc0__stats_body_skel
  unfold owns
  iintro ⟨⟨%f0, %hf0, H0⟩, ⟨%d1, %f1, -, H1⟩, Hk⟩
  obtain rfl := harg1.eq_unread hf0
  sl_exec (disch := first | sl_exact hc0 | sl_exact hc1)
  sl_step
  iapply Hk
  isplitl [H0]
  · iexists _; isplitr; · ipureintro; exact harg1.read_unread _
    iexact H0
  iexists _; isplitr
  swap; · iexact H1
  ipureintro
  rw [View.read_writes_full, View.readAt_full, hf0]

/-- At a later point the sums of the point's rows are added to what the block holds. -/
theorem body_later (c : Dev nD) (i : grid0.Coords) (arg1 : Memref sig .tc .vmem S2048x256 .f32) (harg1 : arg1.IsWhole)
    (arg2 : Memref sig .tc .vmem S8x256 .f32) (harg2 : arg2.IsWhole) (hc0 : ¬k0_cond1 i = 1#1) (hc1 : k0_cond2 i = 1#1)
    (x0 : Vec F S2048x256 .f32) (x1 : Vec F S8x256 .f32) (E : Set ℕ) (K : PUnit → sProp 𝕄) :
    iprop(owns (c : Thread nD τ) arg1 fullShare x0 ∗ owns (c : Thread nD τ) arg2 fullShare x1
        ∗ (iprop(owns (c : Thread nD τ) arg1 fullShare x0 ∗ owns (c : Thread nD τ) arg2 fullShare (k0_pay2 x0 x1)) -∗ K ⟨⟩))
      ⊢ wp frame (wpE (defs₀ (F := F)) Variants.none c none) E (cc0__stats_body i arg1 harg1 arg2 harg2) K := by
  simp only [cc0__stats_body_eq_skeleton]; unfold cc0__stats_body_skel
  unfold owns
  iintro ⟨⟨%f0, %hf0, H0⟩, ⟨%f1, %hf1, H1⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  iexists _; isplitr
  swap; · iexact H1
  ipureintro
  rw [View.read_writes_full, View.readAt_full, View.readAt_full, hf0, hf1]

end Cert.KernelIdeal.Call0

end
-- ==== Proof.MainBodyIdeal.lean ====
/- What one grid point of the distance call does to its buffers, the two cases of its branch stated apart. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Call1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the first point keeps of the first weights: each row scaled by its column's inverse deviation. -/
def wScaled (x1 : Vec F S8x256 .f32) (x2 : Vec F S256x512 .f32) : Vec F S256x512 .bf16 :=
  k1_pay3 (View.ld x1 (Rect.unit (s := S8x256) ![0, 0] S1x256.size inb_S8x256_S1x256_0_0)) (View.ld x1 (Rect.unit (s := S8x256) ![1, 0] S1x256.size inb_S8x256_S1x256_1_0)) x2

/-- What it keeps of the first bias: the bias less the product of the scaled mean with the weights. -/
def biasShift (x1 : Vec F S8x256 .f32) (x2 : Vec F S256x512 .f32) (x3 : Vec F S1x512 .f32) : Vec F S1x512 .f32 :=
  k1_pay5 (k1_pay4 (View.ld x1 (Rect.unit (s := S8x256) ![0, 0] S1x256.size inb_S8x256_S1x256_0_0)) (View.ld x1 (Rect.unit (s := S8x256) ![1, 0] S1x256.size inb_S8x256_S1x256_1_0)) x2 x3)

/-- The second weights as it keeps them. -/
def w2Cast (x4 : Vec F S512x512 .f32) : Vec F S512x512 .bf16 := k1_pay6 x4

/-- The history times minus two. -/
def hTwice (x6 : Vec F S512x512 .f32) : Vec F S512x512 .bf16 := k1_pay9 x6

/-- The squared norms of the history's rows. -/
def hNorm (x6 : Vec F S512x512 .f32) : Vec F S1x512 .f32 := k1_pay8 x6

/-- The distances one point stores, from its rows and what the first point kept. -/
def point (x0 : Vec F S512x256 .f32) (y9 : Vec F S256x512 .bf16) (y12 : Vec F S1x512 .f32) (y10 : Vec F S512x512 .bf16) (x5 : Vec F S1x512 .f32) (y11 : Vec F S512x512 .bf16) (y13 : Vec F S1x512 .f32) : Vec F S512x1 .f32 :=
  k1_pay10 x0 y9 y12 y10 x5 y11 y13

/-- The condition under which a point prepares the kept arrays: its coordinate is zero. -/
abbrev isFirst (i : grid1.Coords) : Prop := Scalar.cmpi .ne (Scalar.extui (Scalar.cmpi .eq (BitVec.ofNat 32 (i 0).val) 0#32)) 0#32 = 1#1

set_option maxHeartbeats 2000000 in
/-- At the first point the kept arrays are prepared from the inputs, and the point's distances stored. -/
theorem body_first (c : Dev nD) (i : grid1.Coords) (arg1 : Memref sig .tc .vmem S512x256 .f32) (harg1 : arg1.IsWhole) (arg2 : Memref sig .tc .vmem S8x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S256x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (hc : isFirst i)
    (x0 : Vec F S512x256 .f32) (x1 : Vec F S8x256 .f32) (x2 : Vec F S256x512 .f32) (x3 : Vec F S1x512 .f32) (x4 : Vec F S512x512 .f32) (x5 : Vec F S1x512 .f32) (x6 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (point x0 (wScaled x1 x2) (biasShift x1 x2 x3) (w2Cast x4) x5 (hTwice x6) (hNorm x6)) ∗ owns (c : Thread nD τ) arg9 fullShare (wScaled x1 x2) ∗ owns (c : Thread nD τ) arg10 fullShare (w2Cast x4) ∗ owns (c : Thread nD τ) arg11 fullShare (hTwice x6) ∗ owns (c : Thread nD τ) arg12 fullShare (biasShift x1 x2 x3) ∗ owns (c : Thread nD τ) arg13 fullShare (hNorm x6)) -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11 arg12 harg12 arg13 harg13) K := by
  simp only [cc1__main_body_eq_skeleton]; unfold cc1__main_body_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%e9, %g9, -, G9⟩, ⟨%e10, %g10, -, G10⟩, ⟨%e11, %g11, -, G11⟩, ⟨%e12, %g12, -, G12⟩, ⟨%e13, %g13, -, G13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words; refine (View.read_writes_full _ _ _ _ _).trans ?_; unfold point wScaled biasShift w2Cast hTwice hNorm
    repeat rw [View.readAt_full]
    repeat rw [View.readCov_full]
    repeat rw [View.readAt_eq_ld]
    simp only [hf0, hf1, hf2, hf3, hf4, hf5, hf6]
  isplitl [G9]
  · iexists _; isplitr
    swap; · iexact G9
    ipureintro
    sl_unfold_words; refine (View.read_writes_full _ _ _ _ _).trans ?_; unfold wScaled
    repeat rw [View.readAt_full]
    repeat rw [View.readCov_full]
    repeat rw [View.readAt_eq_ld]
    simp only [hf0, hf1, hf2, hf3, hf4, hf5, hf6]
  isplitl [G10]
  · iexists _; isplitr
    swap; · iexact G10
    ipureintro
    sl_unfold_words; refine (View.read_writes_full _ _ _ _ _).trans ?_; unfold w2Cast
    repeat rw [View.readAt_full]
    repeat rw [View.readCov_full]
    repeat rw [View.readAt_eq_ld]
    simp only [hf0, hf1, hf2, hf3, hf4, hf5, hf6]
  isplitl [G11]
  · iexists _; isplitr
    swap; · iexact G11
    ipureintro
    sl_unfold_words; refine (View.read_writes_full _ _ _ _ _).trans ?_; unfold hTwice
    repeat rw [View.readAt_full]
    repeat rw [View.readCov_full]
    repeat rw [View.readAt_eq_ld]
    simp only [hf0, hf1, hf2, hf3, hf4, hf5, hf6]
  isplitl [G12]
  · iexists _; isplitr
    swap; · iexact G12
    ipureintro
    sl_unfold_words; refine (View.read_writes_full _ _ _ _ _).trans ?_; unfold biasShift
    repeat rw [View.readAt_full]
    repeat rw [View.readCov_full]
    repeat rw [View.readAt_eq_ld]
    simp only [hf0, hf1, hf2, hf3, hf4, hf5, hf6]
  iexists _; isplitr
  swap; · iexact G13
  ipureintro
  sl_unfold_words; refine (View.read_writes_full _ _ _ _ _).trans ?_; unfold hNorm
  repeat rw [View.readAt_full]
  repeat rw [View.readCov_full]
  repeat rw [View.readAt_eq_ld]
  simp only [hf0, hf1, hf2, hf3, hf4, hf5, hf6]

set_option maxHeartbeats 2000000 in
/-- At a later point the kept arrays are read, and the point's distances stored. -/
theorem body_later (c : Dev nD) (i : grid1.Coords) (arg1 : Memref sig .tc .vmem S512x256 .f32) (harg1 : arg1.IsWhole) (arg2 : Memref sig .tc .vmem S8x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S256x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (hc : ¬isFirst i)
    (x0 : Vec F S512x256 .f32) (x1 : Vec F S8x256 .f32) (x2 : Vec F S256x512 .f32) (x3 : Vec F S1x512 .f32) (x4 : Vec F S512x512 .f32) (x5 : Vec F S1x512 .f32) (x6 : Vec F S512x512 .f32) (y9 : Vec F S256x512 .bf16) (y10 : Vec F S512x512 .bf16) (y11 : Vec F S512x512 .bf16) (y12 : Vec F S1x512 .f32) (y13 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (point x0 y9 y12 y10 x5 y11 y13) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13) -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11 arg12 harg12 arg13 harg13) K := by
  simp only [cc1__main_body_eq_skeleton]; unfold cc1__main_body_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%g9, %hg9, G9⟩, ⟨%g10, %hg10, G10⟩, ⟨%g11, %hg11, G11⟩, ⟨%g12, %hg12, G12⟩, ⟨%g13, %hg13, G13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg9.eq_unread hg9; obtain rfl := harg10.eq_unread hg10; obtain rfl := harg11.eq_unread hg11; obtain rfl := harg12.eq_unread hg12; obtain rfl := harg13.eq_unread hg13
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words; refine (View.read_writes_full _ _ _ _ _).trans ?_; unfold point
    repeat rw [View.readAt_full]
    repeat rw [View.readCov_full]
    repeat rw [View.readAt_eq_ld]
    simp only [hf0, hf1, hf2, hf3, hf4, hf5, hf6, hg9, hg10, hg11, hg12, hg13]
  isplitl [G9]
  · iexists _; isplitr; · ipureintro; exact harg9.read_unread _
    iexact G9
  isplitl [G10]
  · iexists _; isplitr; · ipureintro; exact harg10.read_unread _
    iexact G10
  isplitl [G11]
  · iexists _; isplitr; · ipureintro; exact harg11.read_unread _
    iexact G11
  isplitl [G12]
  · iexists _; isplitr; · ipureintro; exact harg12.read_unread _
    iexact G12
  iexists _; isplitr; · ipureintro; exact harg13.read_unread _
  iexact G13

end Cert.KernelIdeal.Call1

end
-- ==== Proof.RegionsIdeal.lean ====
/- The two calls on their grids, each at whatever the buffers hold when it is entered: what every point finds and leaves,
   and the obligation of its body at every point. -/
module

public import proofs.«01_k».proof.Proof.StatsBodyIdeal
public import proofs.«01_k».proof.Proof.MainBodyIdeal

@[expose] public section

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Call0 Cert.KernelIdeal.Call1

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The statistics call -/

/-- Window `w`'s block at point `t` of the statistics call, read off its array as found. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first branch is taken at the first point only. -/
theorem first0 : ∀ t : Fin cfg0.N, k0_cond1 (grid0.coords t) = 1#1 ↔ t.val = 0 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val = 0)

/-- The second branch is taken at every later point. -/
theorem later0 : ∀ t : Fin cfg0.N, k0_cond2 (grid0.coords t) = 1#1 ↔ 1 ≤ t.val :=
  (fun t => by
    have ht : t.val < 8 := Nat.lt_of_lt_of_eq t.isLt N_0
    have e0 : (grid0.coords t 0).val = t.val / 1 % 8 := Pipeline.Grid.coords_val t 0 (by decide) rfl
    simp only [k0_cond2, e0]
    word_cmp
   : ∀ t : Fin grid0.N, k0_cond2 (grid0.coords t) = 1#1 ↔ 1 ≤ t.val)

/-- The result's window is idle nowhere. -/
theorem live0_1 : ∀ t : Fin cfg0.N, cfg0.idle 1 (grid0.coords t) = false := by decide +kernel

/-- The positions before which the result's buffer holds nothing stored since it was last written back. -/
def freshTab0 : ℕ → Bool
  | 0 => true
  | n + 1 => (0x80 : ℕ).testBit n
/-- The table follows the write-backs, step by step. -/
theorem freshTab0_step : ∀ t : Fin cfg0.N,
    freshTab0 (t.val + 1) = ((cfg0.win 1).flush t || (cfg0.idle 1 (cfg0.grid.coords t) && freshTab0 t.val)) := by decide +kernel

/-- Past the first point the result's buffer still holds what was stored. -/
theorem kept0_1 (t : Fin cfg0.N) (h : t.val ≠ 0) : cfg0.fresh 1 t.val = false := by
  rw [show cfg0.fresh 1 t.val = freshTab0 t.val from
    Pipeline.Cfg.fresh_tab cfg0 1 freshTab0 rfl freshTab0_step t.val (Nat.le_of_lt t.isLt)]
  revert t; decide +kernel

/-- What the statistics block holds after point `n`: the sums of the rows of the points so far. -/
def acc0 (c : Dev nD) : (n : ℕ) → n < cfg0.N → Vec F S8x256 .f32
  | 0, h => k0_pay1 (iblk0 V c 0 ⟨0, h⟩)
  | n + 1, h => k0_pay2 (iblk0 V c 0 ⟨n + 1, h⟩) (acc0 c n (Nat.lt_of_succ_lt h))

/-- The proof data of the statistics call. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

/-- The statistics call's arrays, as found; -/
theorem A_eq0 (c : Dev nD) (w : Fin cfg0.W) : (dat0 V c).A w = V c (Pipeline.arrRef spec0 w) := by dsimp only [dat0]
/-- after a point the batch's buffer holds its block, -/
theorem after0_0 (c : Dev nD) (t : Fin cfg0.N) : (dat0 V c).after 0 t = iblk0 V c 0 t := by dsimp only [dat0]
/-- and the result's the sums so far. -/
theorem after0_1 (c : Dev nD) (t : Fin cfg0.N) : (dat0 V c).after 1 t = acc0 V c t.val t.isLt := by dsimp only [dat0]

/-- The input's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Past the first point the result's buffer holds what the point before left. -/
theorem before0_1 (c : Dev nD) (t : Fin cfg0.N) (h : t.val ≠ 0) (d) :
    (dat0 V c).before 1 t d = acc0 V c (t.val - 1) (Nat.lt_of_le_of_lt (Nat.sub_le _ _) t.isLt) := by
  rw [Dat.before_out_traj _ 1 rfl (fun _ _ => rfl)
      (fun t _ hi _ => absurd ((live0_1 t).symm.trans hi) Bool.false_ne_true) t.val t rfl d,
    if_neg (by rw [kept0_1 t h]; exact Bool.false_ne_true)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 800000 in
/-- The body at every point of the statistics call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    show (dat0 V c).leavesExact 0 t = owns (c : Thread nD τ) (st0_0 t) fullShare (iblk0 V c 0 t) from by
      unfold Dat.leavesExact; rw [show cfg0.idle 0 (cfg0.grid.coords t) = false from rfl, after0_0],
    show (dat0 V c).leavesExact 1 t = owns (c : Thread nD τ) (st0_1 t) fullShare (acc0 V c t.val t.isLt) from by
      unfold Dat.leavesExact; rw [show cfg0.idle 1 (cfg0.grid.coords t) = false from live0_1 t, after0_1]]
  by_cases h0 : t.val = 0
  · rw [show acc0 V c t.val t.isLt = k0_pay1 (iblk0 V c 0 t) from by
      obtain ⟨n, hn⟩ := t; cases n with
      | zero => rfl
      | succ n => exact absurd h0 (Nat.succ_ne_zero n)]
    iintro ⟨HΦ, Ho, ⟨%d0, H0⟩, ⟨%d1, H1⟩⟩
    iapply (Call0.body_first c (grid0.coords t) _ _ _ _ ((first0 t).mpr h0) (fun h => by have := (later0 t).mp h; omega) (iblk0 V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [show acc0 V c t.val t.isLt = k0_pay2 (iblk0 V c 0 t) (acc0 V c (t.val - 1) (Nat.lt_of_le_of_lt (Nat.sub_le _ _) t.isLt)) from by
      obtain ⟨n, hn⟩ := t; cases n with
      | zero => exact absurd rfl h0
      | succ n => rfl]
    simp only [before0_1 V c t h0]
    iintro ⟨HΦ, Ho, ⟨%d0, H0⟩, ⟨%d1, H1⟩⟩
    iapply (Call0.body_later c (grid0.coords t) _ _ _ _ (fun h => h0 ((first0 t).mp h)) ((later0 t).mpr (by omega)) (iblk0 V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The body the statistics call runs at point `t`. -/
theorem defs_row0 (t : Fin cfg0.N) : defs₀ (F := F) .tc cfg0.body (cfg0.bodyArgs t (cfg0.slots t)) = bodyAt0 t := by
  unfold defs₀; rw [Defs.onTc_tc]

/-- The obligation of the statistics call's body. -/
theorem body_obligation0 (c : Dev nD) : BodyObligation (dat0 (F := F) V c) (defs₀ (F := F)) Variants.none () Set.univ := fun t => by
  rw [bigSep_W0, bigSep_W0, defs_row0]
  exact triple_restated (sound_body0 V c t) rfl .rfl fun _ => .rfl

/-! ## The distance call -/

/-- Window `w`'s block at point `t` of the distance call, read off its array as found. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The branch is taken at the first point only. -/
theorem first1 : ∀ t : Fin cfg1.N, isFirst (grid1.coords t) ↔ t.val = 0 :=
  (fun t => by
    have ht : t.val < 32 := Nat.lt_of_lt_of_eq t.isLt N_1
    have e0 : (grid1.coords t 0).val = t.val / 1 % 32 := Pipeline.Grid.coords_val t 0 (by decide) rfl
    simp only [isFirst, e0]
    word_cmp
   : ∀ t : Fin grid1.N, isFirst (grid1.coords t) ↔ t.val = 0)

/-- The first point. -/
abbrev p0 : Fin cfg1.N := ⟨0, by rw [show cfg1.N = 32 from N_1]; decide⟩

/-- What the kept array 0 holds from the first point on. -/
def kWScaled (c : Dev nD) : Vec F S256x512 .bf16 := wScaled (iblk1 V c 1 p0) (iblk1 V c 2 p0)
/-- What the kept array 1 holds from the first point on. -/
def kW2 (c : Dev nD) : Vec F S512x512 .bf16 := w2Cast (iblk1 V c 4 p0)
/-- What the kept array 2 holds from the first point on. -/
def kHTwice (c : Dev nD) : Vec F S512x512 .bf16 := hTwice (iblk1 V c 6 p0)
/-- What the kept array 3 holds from the first point on. -/
def kBias (c : Dev nD) : Vec F S1x512 .f32 := biasShift (iblk1 V c 1 p0) (iblk1 V c 2 p0) (iblk1 V c 3 p0)
/-- What the kept array 4 holds from the first point on. -/
def kHNorm (c : Dev nD) : Vec F S1x512 .f32 := hNorm (iblk1 V c 6 p0)

/-- The distances point `t` stores. -/
def out1 (c : Dev nD) (t : Fin cfg1.N) : Vec F S512x1 .f32 :=
  point (iblk1 V c 0 t) (kWScaled V c) (kBias V c) (kW2 V c) (iblk1 V c 5 t) (kHTwice V c) (kHNorm V c)

/-- What the distance call holds beside its windows: the staging buffers of the call before, the kept arrays at anything, and
    the generator's register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d)) ∗ (∃ r, prngReg c r)) := by
  unfold Pipeline.ΦA; rw [scopedRest1_eq]; simp only [owns_whole]; try rfl

/-- The same once the first point has run: the kept arrays at what it left in them. -/
def keptPhi (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) (Memref.whole cc1_scratch0) fullShare (kWScaled V c) ∗ owns (c : Thread nD τ) (Memref.whole cc1_scratch1) fullShare (kW2 V c) ∗ owns (c : Thread nD τ) (Memref.whole cc1_scratch2) fullShare (kHTwice V c) ∗ owns (c : Thread nD τ) (Memref.whole cc1_scratch3) fullShare (kBias V c) ∗ owns (c : Thread nD τ) (Memref.whole cc1_scratch4) fullShare (kHNorm V c)) ∗ (∃ r, prngReg c r))

/-- Before point `n`. -/
def PhiS (c : Dev nD) : ℕ → sProp 𝕄
  | 0 => Pipeline.ΦA spec1 c
  | _ + 1 => keptPhi V c

/-- Past the first point the kept buffers hold what the first point prepared. -/
theorem PhiS_pos (c : Dev nD) (n : ℕ) (h : n ≠ 0) : PhiS V c n = keptPhi V c := by
  cases n with
  | zero => exact absurd rfl h
  | succ n => rfl

/-- The proof data of the distance call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS V c t.val
  q _ := fullShare
  owed _ := 0

/-- The distance call's arrays, as found; -/
theorem A_eq1 (c : Dev nD) (w : Fin cfg1.W) : (dat1 V c).A w = V c (Pipeline.arrRef spec1 w) := by dsimp only [dat1]
/-- after a point window 0's buffer holds its block, -/
theorem after1_0 (c : Dev nD) (t : Fin cfg1.N) : (dat1 V c).after 0 t = iblk1 V c 0 t := by dsimp only [dat1]
/-- after a point window 1's buffer holds its block, -/
theorem after1_1 (c : Dev nD) (t : Fin cfg1.N) : (dat1 V c).after 1 t = iblk1 V c 1 t := by dsimp only [dat1]
/-- after a point window 2's buffer holds its block, -/
theorem after1_2 (c : Dev nD) (t : Fin cfg1.N) : (dat1 V c).after 2 t = iblk1 V c 2 t := by dsimp only [dat1]
/-- after a point window 3's buffer holds its block, -/
theorem after1_3 (c : Dev nD) (t : Fin cfg1.N) : (dat1 V c).after 3 t = iblk1 V c 3 t := by dsimp only [dat1]
/-- after a point window 4's buffer holds its block, -/
theorem after1_4 (c : Dev nD) (t : Fin cfg1.N) : (dat1 V c).after 4 t = iblk1 V c 4 t := by dsimp only [dat1]
/-- after a point window 5's buffer holds its block, -/
theorem after1_5 (c : Dev nD) (t : Fin cfg1.N) : (dat1 V c).after 5 t = iblk1 V c 5 t := by dsimp only [dat1]
/-- after a point window 6's buffer holds its block, -/
theorem after1_6 (c : Dev nD) (t : Fin cfg1.N) : (dat1 V c).after 6 t = iblk1 V c 6 t := by dsimp only [dat1]
/-- and the result's what the point stores. -/
theorem after1_7 (c : Dev nD) (t : Fin cfg1.N) : (dat1 V c).after 7 t = out1 V c t := by dsimp only [dat1]

/-! Each input's buffer holds its block at every point. -/

/-- Before a point window 0's buffer holds its block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Before a point window 1's buffer holds its block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
/-- Before a point window 2's buffer holds its block. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
/-- Before a point window 3's buffer holds its block. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
/-- Before a point window 4's buffer holds its block. -/
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
/-- Before a point window 5's buffer holds its block. -/
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
/-- Before a point window 6's buffer holds its block. -/
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at every point of the distance call. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7,
    show (dat1 V c).Φ t.succ = keptPhi V c from rfl, show (dat1 V c).Φ t.castSucc = PhiS V c t.val from rfl]
  by_cases h0 : t.val = 0
  · obtain rfl : t = p0 := Fin.ext h0
    rw [show PhiS V c p0.val = Pipeline.ΦA spec1 c from rfl, PhiA1_eq]
    unfold keptPhi out1 kWScaled kBias kW2 kHTwice kHNorm
    iintro ⟨⟨⟨A0, A1, A2, G0, G1, G2, G3, G4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (Call1.body_first c (grid1.coords p0) _ _ _ _ _ _ _ _ _ _ _ _ _ _ _ _ _ _ _ _ _ _ _ _ _ _ ((first1 p0).mpr rfl) (iblk1 V c 0 p0) (iblk1 V c 1 p0) (iblk1 V c 2 p0) (iblk1 V c 3 p0) (iblk1 V c 4 p0) (iblk1 V c 5 p0) (iblk1 V c 6 p0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [G0]; · iexact G0
    isplitl [G1]; · iexact G1
    isplitl [G2]; · iexact G2
    isplitl [G3]; · iexact G3
    isplitl [G4]; · iexact G4
    iintro ⟨H0, H1, H2, H3, H4, H5, H6, H7, G0, G1, G2, G3, G4⟩
    isplitl [A0 A1 A2 G0 G1 G2 G3 G4 Hg]
    · isplitl [A0 A1 A2 G0 G1 G2 G3 G4]
      · isplitl [A0]; · iexact A0
        isplitl [A1]; · iexact A1
        isplitl [A2]; · iexact A2
        isplitl [G0]; · iexact G0
        isplitl [G1]; · iexact G1
        isplitl [G2]; · iexact G2
        isplitl [G3]; · iexact G3
        iexact G4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos V c _ h0]
    unfold keptPhi out1
    iintro ⟨⟨⟨A0, A1, A2, G0, G1, G2, G3, G4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (Call1.body_later c (grid1.coords t) _ _ _ _ _ _ _ _ _ _ _ _ _ _ _ _ _ _ _ _ _ _ _ _ _ _ (fun h => h0 ((first1 t).mp h)) (iblk1 V c 0 t) (iblk1 V c 1 t) (iblk1 V c 2 t) (iblk1 V c 3 t) (iblk1 V c 4 t) (iblk1 V c 5 t) (iblk1 V c 6 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [G0]; · iexact G0
    isplitl [G1]; · iexact G1
    isplitl [G2]; · iexact G2
    isplitl [G3]; · iexact G3
    isplitl [G4]; · iexact G4
    iintro ⟨H0, H1, H2, H3, H4, H5, H6, H7, G0, G1, G2, G3, G4⟩
    isplitl [A0 A1 A2 G0 G1 G2 G3 G4 Hg]
    · isplitl [A0 A1 A2 G0 G1 G2 G3 G4]
      · isplitl [A0]; · iexact A0
        isplitl [A1]; · iexact A1
        isplitl [A2]; · iexact A2
        isplitl [G0]; · iexact G0
        isplitl [G1]; · iexact G1
        isplitl [G2]; · iexact G2
        isplitl [G3]; · iexact G3
        iexact G4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body the distance call runs at point `t`. -/
theorem defs_row1 (t : Fin cfg1.N) : defs₀ (F := F) .tc cfg1.body (cfg1.bodyArgs t (cfg1.slots t)) = bodyAt1 t := by
  unfold defs₀; rw [Defs.onTc_tc]

/-- The obligation of the distance call's body. -/
theorem body_obligation1 (c : Dev nD) : BodyObligation (dat1 (F := F) V c) (defs₀ (F := F)) Variants.none () Set.univ := fun t => by
  rw [bigSep_W1, bigSep_W1, defs_row1]
  exact triple_restated (sound_body1 V c t) rfl .rfl fun _ => .rfl

/-- What the call is entered with is what is held before its first point, -/
theorem hin1 (c : Dev nD) : Pipeline.ΦA spec1 c ⊢ (dat1 V c).Φ 0 := by
  rw [show (dat1 V c).Φ 0 = Pipeline.ΦA spec1 c from rfl]

/-- and what is held after its last point is given back, the kept contents forgotten. -/
theorem hout1 (c : Dev nD) : (dat1 V c).Φ (Fin.last cfg1.N) ⊢ Pipeline.ΦA spec1 c := by
  rw [show (dat1 V c).Φ (Fin.last cfg1.N) = PhiS V c (Fin.last cfg1.N).val from rfl,
    PhiS_pos V c _ (by rw [Fin.val_last, show cfg1.N = 32 from N_1]; decide), PhiA1_eq]
  unfold keptPhi
  iintro ⟨⟨A0, A1, A2, G0, G1, G2, G3, G4⟩, Hg⟩
  isplitl [A0 A1 A2 G0 G1 G2 G3 G4]
  · isplitl [A0]; · iexact A0
    isplitl [A1]; · iexact A1
    isplitl [A2]; · iexact A2
    isplitl [G0]; · iexists _; iexact G0
    isplitl [G1]; · iexists _; iexact G1
    isplitl [G2]; · iexists _; iexact G2
    isplitl [G3]; · iexists _; iexact G3
    iexists _; iexact G4
  iexact Hg

end Cert.KernelIdeal.Regions

end
-- ==== Proof.RunIdeal.lean ====
/- The whole program's run: the host operations, the statistics call, the distance call; what every buffer holds between
   them, and what the run ends with. -/
module

public import proofs.«01_k».proof.Proof.RegionsIdeal
public import Idealize.ShloMosaic.Lib.Pipeline.RegionsLoop
public import Idealize.ShloMosaic.Lib.Pipeline.FrameSuffix

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Regions

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments' buffers. -/
abbrev argRefs : List (Ref sig .tc) := [main_arg0, main_arg1, main_arg2, main_arg3, main_arg4, main_arg5]

/-- No host operation allocates. -/
theorem hostOps0_fresh : (hostOps0 : List (HloOp τ sig (Elt F))).Forall fun op => op.fresh = ∅ := by
  simp only [List.Forall]; repeat' constructor
/-- The buffers the host operations write, -/
abbrev hostOps0_W : List (Ref sig .tc) := [main_cst, main_v0, main_v1, main_v2, main_v3]
/-- and they write no other, -/
theorem hostOps0_writes : (hostOps0 : List (HloOp τ sig (Elt F))).Forall fun op => op.writes ⊆ (hostOps0_W.map (Proc.devRef (τ := τ) .tc)).toFinset :=
  StableHlo.forall_writes_sub_of_map rfl
/-- no argument among them. -/
theorem hostOps0_args : ∀ a ∈ argRefs, a ∉ hostOps0_W := ListAll.forall_mem_of_all_decide (by decide +kernel)

/-- The buffers at the start, -/
abbrev W0 : Dev nD → Valuation τ sig (Elt F) := fun c b => (s₀ m ρ).mem ((c : Dev nD), b)
/-- the arguments as given. -/
theorem W0_args (c : Dev nD) : ∀ a ∈ argRefs, W0 m ρ c (Proc.devRef .tc a) = m ((c : Thread nD τ).loc a) := fun _ _ => rfl
/-- The buffers after the host operations, -/
abbrev W1 : Dev nD → Valuation τ sig (Elt F) := fun c => StableHlo.after hostOps0 (W0 m ρ c)
/-- which keep what they do not write, -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- the arguments among it. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, as the statistics call finds them. -/
abbrev V1 : (c : Dev nD) → (b : Ref sig .tc) → Buf (Elt F) ((c : Thread nD τ).loc b) := fun c b => W1 m ρ c b
/-- The buffers after the statistics call: its arrays as its grid leaves them, the rest as found. -/
def W2 (c : Dev nD) : Valuation τ sig (Elt F) :=
  Pipeline.withArrays spec0 c (W1 m ρ c) fun w => (dat0 (V1 m ρ) c).arrAt w cfg0.N
/-- Its arrays are as its grid leaves them, -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- the other buffers as found, -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- every buffer but its result as found, -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- and no argument is its result, -/
theorem argsIn0 : ∀ a ∈ argRefs, ∀ w : Fin cfg0.W, Pipeline.arrRef spec0 w = a → (cfg0.win w).isOut = false :=
  ListAll.forall_mem_of_all_decide (by decide +kernel)
/-- so the arguments are as given. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, as the distance call finds them. -/
abbrev V2 : (c : Dev nD) → (b : Ref sig .tc) → Buf (Elt F) ((c : Thread nD τ).loc b) := fun c b => W2 m ρ c b
/-- The arrays of the statistics call at its end, -/
theorem hF0 (c : Dev nD) (w : Fin cfg0.W) : (dat0 (V1 m ρ) c).arrAt w cfg0.N = V2 m ρ c (Pipeline.arrRef spec0 w) :=
  (W2_arr m ρ c w).symm
/-- and the other buffers. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the distance call. -/
def W3 (c : Dev nD) : Valuation τ sig (Elt F) :=
  Pipeline.withArrays spec1 c (W2 m ρ c) fun w => (dat1 (V2 m ρ) c).arrAt w cfg1.N
/-- Its arrays are as its grid leaves them, -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- the other buffers as found, -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- every buffer but its result as found, -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- and no argument is its result, -/
theorem argsIn1 : ∀ a ∈ argRefs, ∀ w : Fin cfg1.W, Pipeline.arrRef spec1 w = a → (cfg1.win w).isOut = false :=
  ListAll.forall_mem_of_all_decide (by decide +kernel)
/-- so the arguments are as given. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The buffers at the end. -/
abbrev V3 : (c : Dev nD) → (b : Ref sig .tc) → Buf (Elt F) ((c : Thread nD τ).loc b) := fun c b => W3 m ρ c b
/-- The arrays of the distance call at its end, -/
theorem hF1 (c : Dev nD) (w : Fin cfg1.W) : (dat1 (V2 m ρ) c).arrAt w cfg1.N = V3 m ρ c (Pipeline.arrRef spec1 w) :=
  (W3_arr m ρ c w).symm
/-- and the other buffers. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No call prefetches a table. -/
abbrev adm : (p : Fin 2) → (pcfgs (F := F) p).Adm := fun p => (cfgs p).toPCfg_adm
/-- The two calls' proof data, each at what it finds. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No variant is needed. -/
abbrev 𝒱₀ : Variants := Variants.none
/-- Nothing is owed between cores, -/
abbrev L : GSem nD τ sig → Finset Unit := fun _ => ∅
/-- at any level. -/
abbrev lv : GSem nD τ sig → Unit → ℕ := fun _ _ => 0
/-- What rides along beside the buffers. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped buffer is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The statistics call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as three segments: the host operations, the statistics, the distances. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide

set_option backward.isDefEq.respectTransparency.types false in
/-- Every run ends; then the result holds what the distance call's grid leaves in it, every argument is as given, and every
    semaphore counts zero. -/
theorem run : θ_run defs (onTc (τ := τ) (main (F := F))) ⟨m, fun _ => 0, ρ⟩ (fun r => (∀ c : Dev nD,
      r.2.mem ((c.tc : Thread nD τ).loc main_v5) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v5 (by decide))).trans (W3_arr m ρ c 7),
       (h c _ (mem_uc main_arg0 (by decide))).trans (W3_args m ρ c main_arg0 (by decide)),
       (h c _ (mem_uc main_arg1 (by decide))).trans (W3_args m ρ c main_arg1 (by decide)),
       (h c _ (mem_uc main_arg2 (by decide))).trans (W3_args m ρ c main_arg2 (by decide)),
       (h c _ (mem_uc main_arg3 (by decide))).trans (W3_args m ρ c main_arg3 (by decide)),
       (h c _ (mem_uc main_arg4 (by decide))).trans (W3_args m ρ c main_arg4 (by decide)),
       (h c _ (mem_uc main_arg5 (by decide))).trans (W3_args m ρ c main_arg5 (by decide))⟩), funext fun g => hz g (.inr (no_unscoped g.2))⟩)

end Cert.KernelIdeal.Run

end
-- ==== Proof.Maths.lean ====
/- The mathematics over the real numbers: the batch's mean and variance, the two layers, the distance's terms, and the
   facts about them that the two programs' agreement rests on. Nothing here speaks of a program. -/
module

public import Idealize.ShloMosaic.PureOps.Ideal.Laws

@[expose] public section

noncomputable section

namespace Cert.Maths

/-- The count added to the batch's. -/
def e4 : ℝ := 13743895 / 137438953472
/-- What keeps the deviation off zero. -/
def e8 : ℝ := 11258999 / 1125899906842624
/-- The least squared distance. -/
def e12 : ℝ := 9223372 / 9223372036854775808
/-- What the rows past the history's are filled with. -/
def far : ℝ := 999999986991104

/-- `e4` is positive, -/
theorem e4_pos : 0 < e4 := by unfold e4; norm_num
/-- so is `e8`, -/
theorem e8_pos : 0 < e8 := by unfold e8; norm_num
/-- and so is `e12`. -/
theorem e12_pos : 0 < e12 := by unfold e12; norm_num

variable (X : Fin 16384 → Fin 256 → ℝ) (A : Fin 256 → Fin 512 → ℝ) (a : Fin 512 → ℝ) (B : Fin 512 → Fin 512 → ℝ)
  (b : Fin 512 → ℝ) (H : Fin 500 → Fin 512 → ℝ)

/-- A column's mean, -/
def mean (d : Fin 256) : ℝ := (∑ i, X i d) / 16384
/-- its variance within the batch, -/
def batchVar (d : Fin 256) : ℝ := (∑ i, (X i d - mean X d) * (X i d - mean X d)) / 16383
/-- the updated variance, -/
def newVar (d : Fin 256) : ℝ := (e4 + batchVar X d * 16384 + mean X d * mean X d * e4) / 16384
/-- and the deviation. -/
def dev (d : Fin 256) : ℝ := Real.sqrt (newVar X d + e8)
/-- The hidden layer. -/
def hidden (i : Fin 16384) (j : Fin 512) : ℝ := max ((∑ d, (X i d - mean X d) / dev X d * A d j) + a j) 0
/-- The embedding. -/
def embed (i : Fin 16384) (k : Fin 512) : ℝ := (∑ j, hidden X A a i j * B j k) + b k

/-- The part of the squared distance from `e` that depends on the other end. -/
def part (e h : Fin 512 → ℝ) : ℝ := (∑ k, e k * (h k * -2)) + ∑ k, h k * h k
/-- The squared length. -/
def len (e : Fin 512 → ℝ) : ℝ := ∑ k, e k * e k

/-- The squared distance out of its parts. -/
theorem part_add_len (e h : Fin 512 → ℝ) : part e h + len e = (len e + ∑ k, h k * h k) - 2 * ∑ k, e k * h k := by
  have hs : ∑ k, e k * (h k * -2) = -(2 * ∑ k, e k * h k) := by
    rw [Finset.mul_sum, ← Finset.sum_neg_distrib]; exact Finset.sum_congr rfl fun k _ => by ring
  unfold part; rw [hs]; ring

/-- The variance out of the sum and the sum of squares. -/
theorem batchVar_eq (d : Fin 256) : ((∑ i, X i d * X i d) - (∑ i, X i d) * mean X d) / 16383 = batchVar X d := by
  have hs : ∑ i, X i d = 16384 * mean X d := by unfold mean; ring
  have : ∑ i, (X i d - mean X d) * (X i d - mean X d) = (∑ i, X i d * X i d) - (∑ i, X i d) * mean X d := by
    have : ∀ i, (X i d - mean X d) * (X i d - mean X d) = X i d * X i d - 2 * mean X d * X i d + mean X d * mean X d :=
      fun i => by ring
    simp only [this, Finset.sum_add_distrib, Finset.sum_sub_distrib, ← Finset.mul_sum, Finset.sum_const, Finset.card_univ,
      Fintype.card_fin, hs, nsmul_eq_mul]
    push_cast; ring
  unfold batchVar; rw [this]

/-- The batch's variance is not negative. -/
theorem batchVar_nonneg (d : Fin 256) : 0 ≤ batchVar X d :=
  div_nonneg (Finset.sum_nonneg fun _ _ => mul_self_nonneg _) (by norm_num)

/-- The updated variance is at least the batch's, -/
theorem batchVar_le (d : Fin 256) : batchVar X d ≤ newVar X d := by
  unfold newVar
  have := e4_pos
  have := mul_nonneg (mul_self_nonneg (mean X d)) e4_pos.le
  rw [le_div_iff₀ (by norm_num)]; linarith

/-- so what the deviation is the root of is positive, -/
theorem newVar_pos (d : Fin 256) : 0 < newVar X d + e8 := by
  have := batchVar_nonneg X d; have := batchVar_le X d; have := e8_pos; linarith

/-- The deviation is positive. -/
theorem dev_pos (d : Fin 256) : 0 < dev X d := Real.sqrt_pos.mpr (newVar_pos X d)

/-- and no entry lies more than 128 deviations off its mean. -/
theorem abs_sub_mean_le (i : Fin 16384) (d : Fin 256) : |(X i d - mean X d) / dev X d| ≤ 128 := by
  have hd := dev_pos X d
  rw [abs_div, abs_of_pos hd, div_le_iff₀ hd]
  apply abs_le_of_sq_le_sq _ (by positivity)
  have h1 : (X i d - mean X d) * (X i d - mean X d) ≤ ∑ i, (X i d - mean X d) * (X i d - mean X d) :=
    Finset.single_le_sum (f := fun i => (X i d - mean X d) * (X i d - mean X d)) (fun _ _ => mul_self_nonneg _) (Finset.mem_univ i)
  have h2 : ∑ i, (X i d - mean X d) * (X i d - mean X d) = 16383 * batchVar X d := by unfold batchVar; ring
  have h3 : dev X d ^ 2 = newVar X d + e8 := Real.sq_sqrt (newVar_pos X d).le
  have := batchVar_le X d; have := batchVar_nonneg X d; have := e8_pos
  rw [mul_pow, h3]; nlinarith

/-- The hidden layer with the deviation moved into the weights and the mean into the bias. -/
theorem hidden_eq (i : Fin 16384) (j : Fin 512) :
    max ((∑ d, X i d * (A d j * (dev X d)⁻¹)) + (a j - ∑ d, mean X d * (dev X d)⁻¹ * A d j)) 0 = hidden X A a i j := by
  unfold hidden; congr 1
  have : ∀ d, (X i d - mean X d) / dev X d * A d j = X i d * (A d j * (dev X d)⁻¹) - mean X d * (dev X d)⁻¹ * A d j :=
    fun d => by rw [div_eq_mul_inv]; ring
  simp only [this, Finset.sum_sub_distrib]; ring

/-- A sum of `n` terms each at most `c` in size is at most `n · c` in size. -/
theorem abs_sum_le {n : ℕ} (f : Fin n → ℝ) (c : ℝ) (h : ∀ k, |f k| ≤ c) : |∑ k, f k| ≤ n * c := by
  refine (Finset.abs_sum_le_sum_abs _ _).trans ?_
  refine (Finset.sum_le_card_nsmul _ _ c fun k _ => h k).trans ?_
  simp

variable {X A a B b H}

/-- A bound on the hidden layer, from bounds on the first layer. -/
theorem abs_hidden_le (hA : ∀ d j, |A d j| ≤ 1000) (ha : ∀ j, |a j| ≤ 1000) (i : Fin 16384) (j : Fin 512) :
    |hidden X A a i j| ≤ 32769000 := by
  have h1 := abs_sum_le (fun d => (X i d - mean X d) / dev X d * A d j) (128 * 1000) fun d => by
    rw [abs_mul]; exact mul_le_mul (abs_sub_mean_le X i d) (hA d j) (abs_nonneg _) (by norm_num)
  have h2 := abs_le.mp h1; have h3 := abs_le.mp (ha j)
  push_cast at h2
  unfold hidden
  rw [abs_of_nonneg (le_max_right _ _)]
  refine max_le ?_ (by norm_num); linarith [h2.2, h3.2]

/-- A bound on the embedding, from bounds on both layers. -/
theorem abs_embed_le (hA : ∀ d j, |A d j| ≤ 1000) (ha : ∀ j, |a j| ≤ 1000) (hB : ∀ j k, |B j k| ≤ 1000) (hb : ∀ k, |b k| ≤ 1000)
    (i : Fin 16384) (k : Fin 512) : |embed X A a B b i k| ≤ 16777728001000 := by
  have h1 := abs_sum_le (fun j => hidden X A a i j * B j k) (32769000 * 1000) fun j => by
    rw [abs_mul]; exact mul_le_mul (abs_hidden_le hA ha i j) (hB j k) (abs_nonneg _) (by norm_num)
  have h2 := abs_le.mp h1; have h3 := abs_le.mp (hb k)
  push_cast at h2
  unfold embed
  rw [abs_le]; constructor <;> linarith [h2.1, h2.2, h3.1, h3.2]

/-- A filling row is at least as far off as any row of the history. -/
theorem part_le_far {e h : Fin 512 → ℝ} (he : ∀ k, |e k| ≤ 16777728001000) (hh : ∀ k, |h k| ≤ 1000) :
    part e h ≤ part e fun _ => far := by
  unfold part
  rw [← Finset.sum_add_distrib, ← Finset.sum_add_distrib]
  refine Finset.sum_le_sum fun k _ => ?_
  have h1 := abs_le.mp (he k); have h2 := abs_le.mp (hh k)
  have h3 : 0 ≤ (far - h k) * (far + h k - 2 * e k) := by
    refine mul_nonneg ?_ ?_ <;> unfold far <;> linarith [h1.1, h1.2, h2.1, h2.2]
  nlinarith [h3]

end Cert.Maths

end
-- ==== Proof.Extended.lean ====
/- Extended reals: the literals the programs use, real numbers carried through the operations, and the least of a list of
   roots as the root of the least. -/
module

public import proofs.«01_k».proof.Proof.Maths
public import Idealize.ShloMosaic.Lib.ValueIdx

@[expose] public section

noncomputable section

namespace Cert.Extended

open Idealize.ShloMosaic Cert.Maths

/-! ## The literals -/

/-- The literal's value: the batch's size. -/
theorem lit_n : Ideal.ofBits .f32 0x46800000#32 = ((16384 : ℝ) : EReal) := by
  simp [Ideal.ofBits, Ideal.ieee, -EReal.coe_mul]; norm_num
/-- The literal's value: the batch's size less one. -/
theorem lit_n1 : Ideal.ofBits .f32 0x467FFC00#32 = ((16383 : ℝ) : EReal) := by
  simp [Ideal.ofBits, Ideal.ieee, -EReal.coe_mul]; norm_num
/-- The literal's value: one. -/
theorem lit_one : Ideal.ofBits .f32 0x3F800000#32 = ((1 : ℝ) : EReal) := by
  simp [Ideal.ofBits, Ideal.ieee, -EReal.coe_mul]; norm_num
/-- The literal's value: two. -/
theorem lit_two : Ideal.ofBits .f32 0x40000000#32 = ((2 : ℝ) : EReal) := by
  simp [Ideal.ofBits, Ideal.ieee, -EReal.coe_mul]; norm_num
/-- The literal's value: minus two. -/
theorem lit_neg_two : Ideal.ofBits .f32 0xC0000000#32 = ((-2 : ℝ) : EReal) := by
  simp [Ideal.ofBits, Ideal.ieee, -EReal.coe_mul]; norm_num
/-- The literal's value: a thousand. -/
theorem lit_thousand : Ideal.ofBits .f32 0x447A0000#32 = ((1000 : ℝ) : EReal) := by
  simp [Ideal.ofBits, Ideal.ieee, -EReal.coe_mul]; norm_num
/-- The literal's value: `e4`. -/
theorem lit_e4 : Ideal.ofBits .f32 0x38D1B717#32 = ((e4 : ℝ) : EReal) := by
  simp [Ideal.ofBits, Ideal.ieee, -EReal.coe_mul, e4]; norm_num
/-- The literal's value: `e8`. -/
theorem lit_e8 : Ideal.ofBits .f32 0x322BCC77#32 = ((e8 : ℝ) : EReal) := by
  simp [Ideal.ofBits, Ideal.ieee, -EReal.coe_mul, e8]; norm_num
/-- The literal's value: `e12`. -/
theorem lit_e12 : Ideal.ofBits .f32 0x2B8CBCCC#32 = ((e12 : ℝ) : EReal) := by
  simp [Ideal.ofBits, Ideal.ieee, -EReal.coe_mul, e12]; norm_num
/-- The literal's value: `far`. -/
theorem lit_far : Ideal.ofBits .f32 0x58635FA9#32 = ((far : ℝ) : EReal) := by
  simp [Ideal.ofBits, Ideal.ieee, -EReal.coe_mul, far]; norm_num
/-- The literal's value: infinity. -/
theorem lit_top : Ideal.ofBits .f32 0x7F800000#32 = (⊤ : EReal) := by
  simp [Ideal.ofBits, Ideal.ieee]

/-! ## Real numbers through the operations -/

/-- A sum of real numbers is a real number. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals, by other than zero, is the real quotient, -/
theorem coe_div (x : ℝ) {y : ℝ} (h : y ≠ 0) : Ideal.div (x : EReal) (y : EReal) = ((x / y : ℝ) : EReal) := by
  rw [Ideal.div_coe h, ← EReal.coe_mul]; congr 1; ring

/-- the greater of two reals is the real one, -/
theorem coe_max (x y : ℝ) : max (x : EReal) (y : EReal) = ((max x y : ℝ) : EReal) :=
  (EReal.coe_strictMono.monotone.map_max).symm

/-- a positive real's root is the real root, -/
theorem coe_sqrt {x : ℝ} (h : 0 < x) : Ideal.sqrt (x : EReal) = ((Real.sqrt x : ℝ) : EReal) := by
  rw [Ideal.sqrt_coe, if_neg h.not_gt]

/-- and its reciprocal is the real reciprocal. -/
theorem coe_rsqrt {x : ℝ} (h : 0 < x) : Ideal.rsqrt (x : EReal) = (((Real.sqrt x)⁻¹ : ℝ) : EReal) := by
  rw [Ideal.rsqrt_coe, if_neg h.not_gt, if_neg h.ne']

/-! ## The least distance -/

/-- A squared distance's root, the square held at `e12` from below. -/
def root (t : EReal) : EReal := Ideal.sqrt (max t (e12 : EReal))

/-- The root is monotone from zero on. -/
theorem sqrt_mono {x y : EReal} (hx : (0 : EReal) ≤ x) (h : x ≤ y) : Ideal.sqrt x ≤ Ideal.sqrt y := by
  induction y using EReal.rec with
  | bot => rw [le_bot_iff.mp h]
  | top => exact le_top
  | coe y =>
    induction x using EReal.rec with
    | bot => exact bot_le
    | top => exact absurd h (by simp)
    | coe x =>
      have hx' : 0 ≤ x := EReal.coe_nonneg.mp hx
      have hxy : x ≤ y := EReal.coe_le_coe_iff.mp h
      rw [Ideal.sqrt_coe, Ideal.sqrt_coe, if_neg hx'.not_gt, if_neg (hx'.trans hxy).not_gt]
      exact EReal.coe_le_coe_iff.mpr (Real.sqrt_le_sqrt hxy)

/-- The held root is monotone, -/
theorem root_mono : Monotone root := fun _ _ h =>
  sqrt_mono ((EReal.coe_nonneg.mpr e12_pos.le).trans (le_max_right _ _)) (max_le_max_right _ h)

/-- and infinite at infinity. -/
theorem root_top : root ⊤ = ⊤ := by unfold root; rw [max_eq_left le_top]; rfl

/-- Adding a real number, then the root, of the least of a list is the least of the list of those. -/
theorem root_inf {ι : Type} (s : Finset ι) (f : ι → EReal) (c : ℝ) :
    root (s.inf f + (c : EReal)) = s.inf fun i => root (f i + (c : EReal)) := by
  have hm : Monotone fun t : EReal => root (t + (c : EReal)) := fun _ _ h => root_mono (add_le_add_left h _)
  have ht : root ((⊤ : EReal) + (c : EReal)) = ⊤ := by rw [EReal.top_add_coe]; exact root_top
  exact Finset.apply_inf_eq_inf_comp_of_linearOrder (fun t : EReal => root (t + (c : EReal))) hm ht

/-- The rows the kernel looks at: the history's, then the filling ones. -/
def row (H : Fin 500 → Fin 512 → ℝ) (k : Fin 512) : Fin 512 → ℝ := if h : k.val < 500 then H ⟨k.val, h⟩ else fun _ => far

/-- The filling rows do not change the least. -/
theorem inf_row {e : Fin 512 → ℝ} {H : Fin 500 → Fin 512 → ℝ} (he : ∀ k, |e k| ≤ 16777728001000) (hH : ∀ m k, |H m k| ≤ 1000) :
    (Finset.univ.inf fun k : Fin 512 => ((part e (row H k) : ℝ) : EReal))
      = Finset.univ.inf fun m : Fin 500 => ((part e (H m) : ℝ) : EReal) := by
  apply le_antisymm
  · refine Finset.le_inf fun m _ => ?_
    refine (Finset.inf_le (Finset.mem_univ (⟨m.val, by omega⟩ : Fin 512))).trans (le_of_eq ?_)
    unfold row; rw [dif_pos m.isLt]
  · refine Finset.le_inf fun k _ => ?_
    unfold row
    split
    · exact Finset.inf_le (Finset.mem_univ _)
    · exact (Finset.inf_le (Finset.mem_univ (0 : Fin 500))).trans (EReal.coe_le_coe_iff.mpr (part_le_far he (hH 0)))

/-- The root of the least squared distance, filling rows included, is the least of the distances to the history. -/
theorem root_inf_row {e : Fin 512 → ℝ} {H : Fin 500 → Fin 512 → ℝ} (he : ∀ k, |e k| ≤ 16777728001000)
    (hH : ∀ m k, |H m k| ≤ 1000) :
    root ((Finset.univ.inf fun k : Fin 512 => ((part e (row H k) : ℝ) : EReal)) + ((len e : ℝ) : EReal))
      = Finset.univ.inf fun m : Fin 500 =>
          root (((len e + ∑ k, H m k * H m k) - 2 * ∑ k, e k * H m k : ℝ) : EReal) := by
  rw [inf_row he hH, root_inf]
  refine congrArg _ (funext fun m => ?_)
  rw [← EReal.coe_add, part_add_len]

end Cert.Extended

end
-- ==== Proof.StatsValue.lean ====
/- What the statistics call computes at real arguments: one block's column sums, and the sums over all blocks. -/
module

public import proofs.«01_k».proof.Proof.RegionsIdeal
public import proofs.«01_k».proof.Proof.Extended
public import Idealize.ShloMosaic.Lib.Pipeline.ValueKit.Acc
public import Idealize.ShloMosaic.Lib.Pipeline.ValueKit.Geometry

@[expose] public section

set_option maxRecDepth 16384

noncomputable section

namespace Cert.KernelIdeal.StatsValue

open Idealize.ShloMosaic Idealize.ShloMosaic.ValueIdx Idealize.ShloMosaic.TcCoe
open Cert.KernelIdeal.Gen Cert.KernelIdeal.Regions
open Cert.Maths Cert.Extended

/-- A block's column sums, as the first row of its statistics, -/
theorem pay1_sum (v : FVec Ideal S2048x256 .f32) (d : Fin 256) :
    k0_pay1 (F := Ideal) v (ix2 (0 : Fin 8) d) = ∑ r : Fin 2048, v (ix2 r d) := by
  unfold k0_pay1
  rw [concatenate_apply_piece (t := S8x256) 0 _ _ _ 0 (by simp) S1x256 _ rfl rfl 0 rfl (ix2 (0 : Fin 1) d)
    (fun b hb => match b with
      | ⟨0, _⟩ => absurd rfl hb
      | ⟨1, _⟩ => rfl) rfl,
    shapeCast_apply _ _ _ (ix1 d) (by simp [Shape.rowMajor_val_two, Shape.rowMajor_val_one])]
  refine (Ideal.multiReduction_add_single _ _ _ _ _ _).trans ?_
  refine Finset.sum_congr rfl fun r _ => congrArg v (funext fun a => ?_)
  match a with
  | ⟨0, _⟩ => rfl
  | ⟨1, _⟩ => rfl

/-- and of the squares, as the second. -/
theorem pay1_sq (v : FVec Ideal S2048x256 .f32) (d : Fin 256) :
    k0_pay1 (F := Ideal) v (ix2 (1 : Fin 8) d) = ∑ r : Fin 2048, v (ix2 r d) * v (ix2 r d) := by
  unfold k0_pay1
  rw [concatenate_apply_piece (t := S8x256) 0 _ _ _ 1 (by simp) S1x256 _ rfl rfl 1 rfl (ix2 (0 : Fin 1) d)
    (fun b hb => match b with
      | ⟨0, _⟩ => absurd rfl hb
      | ⟨1, _⟩ => rfl) rfl,
    shapeCast_apply _ _ _ (ix1 d) (by simp [Shape.rowMajor_val_two, Shape.rowMajor_val_one])]
  refine (Ideal.multiReduction_add_single _ _ _ _ _ _).trans ?_
  refine Finset.sum_congr rfl fun r _ => ?_
  have : (reduces_S2048x256_S256).lift (ix1 d) r = ix2 (r : Fin 2048) d := funext fun a => match a with
    | ⟨0, _⟩ => rfl
    | ⟨1, _⟩ => rfl
  rw [this]; rfl

/-- A later block adds its statistics to what stood there. -/
theorem pay2_apply (v : FVec Ideal S2048x256 .f32) (w : FVec Ideal S8x256 .f32) (j : S8x256.Idx) :
    k0_pay2 (F := Ideal) v w j = w j + k0_pay1 (F := Ideal) v j := by
  unfold k0_pay2
  rw [addf_apply, shapeCast_self]

variable (V : (c : Dev nD) → (b : Ref sig .tc) → Buf (Elt Ideal) ((c : Thread nD τ).loc b))

/-- The batch's block moves with the point. -/
theorem index0_0 : ∀ t : Fin cfg0.N, (cfg0.win 0).index t = ![t.val, 0] :=
  (by decide +kernel : ∀ t : Fin grid0.N, win0_0.index t = ![t.val, 0])

/-- A block's entry is the array's, 2048 rows to a block. -/
theorem iblk0_apply (c : Dev nD) (t : Fin cfg0.N) (r : Fin 2048) (d : Fin 256) (h : 2048 * t.val + r.val < 16384) :
    iblk0 V c 0 t (ix2 r d) = V c main_arg0 (ix2 (⟨2048 * t.val + r.val, h⟩ : Fin 16384) d) := by
  unfold iblk0
  show V c main_arg0 _ = V c main_arg0 _
  congr 1
  have e := index0_0 t
  funext a
  apply Fin.ext
  match a with
  | ⟨0, _⟩ =>
    show (cfg0.win 0).index t 0 * 2048 + 1 * r.val = 2048 * t.val + r.val
    rw [e]; simp; omega
  | ⟨1, _⟩ =>
    show (cfg0.win 0).index t 1 * 256 + 1 * d.val = d.val
    rw [e]; simp

/-- What a row of the statistics holds after point `n`, when each block adds its rows' share of `f`. -/
theorem acc0_row (c : Dev nD) (i : Fin 8) (d : Fin 256) (f : Fin 16384 → EReal)
    (hf : ∀ (t : Fin cfg0.N) (ht : t.val < 8), k0_pay1 (F := Ideal) (iblk0 V c 0 t) (ix2 i d)
      = ∑ r : Fin 2048, f ⟨2048 * t.val + r.val, by omega⟩) :
    ∀ (n : ℕ) (h : n < cfg0.N) (hn : n < 8), acc0 V c n h (ix2 i d)
      = ∑ t : Fin (n + 1), ∑ r : Fin 2048, f ⟨2048 * t.val + r.val, by omega⟩
  | 0, h, hn => by
    rw [acc0, hf _ hn, Fin.sum_univ_one]; rfl
  | n + 1, h, hn => by
    rw [acc0, pay2_apply, acc0_row c i d f hf n _ (by omega), hf _ hn]
    exact (Fin.sum_univ_castSucc (n := n + 1) fun t : Fin (n + 1 + 1) => ∑ r : Fin 2048, f ⟨2048 * t.val + r.val, by omega⟩).symm

/-- The eight blocks' rows are the batch's. -/
theorem sum_blocks (f : Fin 16384 → EReal) :
    ∑ t : Fin 8, ∑ r : Fin 2048, f ⟨2048 * t.val + r.val, by omega⟩ = ∑ i, f i := by
  rw [← (finProdFinEquiv (m := 8) (n := 2048)).sum_comp f, Fintype.sum_prod_type]
  refine Finset.sum_congr rfl fun t _ => Finset.sum_congr rfl fun r _ => congrArg f (Fin.ext ?_)
  show 2048 * t.val + r.val = r.val + 2048 * t.val
  omega

variable (X : Fin 16384 → Fin 256 → ℝ)

/-- After the last point the first row holds the columns' sums, -/
theorem acc0_sum (c : Dev nD) (hx : V c main_arg0 = fun i => ((X (i 0) (i 1) : ℝ) : EReal)) (d : Fin 256) (h : 7 < cfg0.N) :
    acc0 V c 7 h (ix2 (0 : Fin 8) d) = ((∑ i, X i d : ℝ) : EReal) := by
  rw [acc0_row V c 0 d (fun i => ((X i d : ℝ) : EReal)) (fun t ht => by
    rw [pay1_sum]
    exact Finset.sum_congr rfl fun r _ => by rw [iblk0_apply V c t r d (by omega), hx]; rfl) 7 h (by decide),
    sum_blocks fun i => ((X i d : ℝ) : EReal), coe_sum]

/-- and the second the sums of squares. -/
theorem acc0_sq (c : Dev nD) (hx : V c main_arg0 = fun i => ((X (i 0) (i 1) : ℝ) : EReal)) (d : Fin 256) (h : 7 < cfg0.N) :
    acc0 V c 7 h (ix2 (1 : Fin 8) d) = ((∑ i, X i d * X i d : ℝ) : EReal) := by
  rw [acc0_row V c 1 d (fun i => ((X i d * X i d : ℝ) : EReal)) (fun t ht => by
    rw [pay1_sq]
    exact Finset.sum_congr rfl fun r _ => by rw [iblk0_apply V c t r d (by omega), hx, ← EReal.coe_mul]; rfl) 7 h (by decide),
    sum_blocks fun i => ((X i d * X i d : ℝ) : EReal), coe_sum]

/-- The statistics array ends as the last point left its block. -/
theorem arr0 (c : Dev nD) (h : 7 < cfg0.N) : (dat0 V c).arrAt 1 cfg0.N = acc0 V c 7 h := by
  refine (dat0 V c).arrAt_eq_of_covers 1 _ (by decide +kernel) fun t hf y => ?_
  have ht : t.val = 7 := (by decide +kernel : ∀ t : Fin grid0.N, win0_1.flush t = true → t.val = 7) t hf
  have hi : (cfg0.win 1).index t = ![0, 0] := (by decide +kernel : ∀ t : Fin grid0.N, win0_1.index t = ![0, 0]) t
  obtain rfl : t = ⟨7, h⟩ := Fin.ext ht
  rw [after0_1]
  show acc0 V c 7 h y = acc0 V c 7 h _
  congr 1
  funext a
  apply Fin.ext
  match a with
  | ⟨0, _⟩ =>
    show (y 0).val = (cfg0.win 1).index _ 0 * 8 + 1 * (y 0).val
    rw [hi]; simp
  | ⟨1, _⟩ =>
    show (y 1).val = (cfg0.win 1).index _ 1 * 256 + 1 * (y 1).val
    rw [hi]; simp

end Cert.KernelIdeal.StatsValue

end
-- ==== Proof.KeptValue.lean ====
/- What the first point of the distance call keeps, at real arguments: the scaled weights, the shifted bias, the history
   times minus two and its squared lengths. -/
module

public import proofs.«01_k».proof.Proof.MainBodyIdeal
public import proofs.«01_k».proof.Proof.Extended
public import Idealize.ShloMosaic.Lib.MatmulPlain
public import Idealize.ShloMosaic.Lib.Pipeline.Value

@[expose] public section

set_option maxRecDepth 16384

noncomputable section

namespace Cert.KernelIdeal.KeptValue

open Idealize.ShloMosaic Idealize.ShloMosaic.ValueIdx
open Cert.KernelIdeal.Gen Cert.KernelIdeal.Call1
open Cert.Maths Cert.Extended

/-- A row of 256 as a vector, -/
theorem cast_row (v : FVec Ideal S1x256 .f32) (d : Fin 256) : shapeCast S256 v shapeCasts_S1x256_S256 (ix1 d) = v (ix2 (0 : Fin 1) d) :=
  shapeCast_apply _ _ _ _ (by simp [Shape.rowMajor_val_two, Shape.rowMajor_val_one])

/-- a vector of 256 as a row, -/
theorem cast_toRow (v : FVec Ideal S256 .f32) (d : Fin 256) : shapeCast S1x256 v shapeCasts_S256_S1x256 (ix2 (0 : Fin 1) d) = v (ix1 d) :=
  shapeCast_apply _ _ _ _ (by simp [Shape.rowMajor_val_two, Shape.rowMajor_val_one])

/-- a vector of 256 as a column, -/
theorem cast_toCol (v : FVec Ideal S256 .f32) (d : Fin 256) : shapeCast S256x1 v shapeCasts_S256_S256x1 (ix2 d (0 : Fin 1)) = v (ix1 d) :=
  shapeCast_apply _ _ _ _ (by simp [Shape.rowMajor_val_two, Shape.rowMajor_val_one])

/-- and a vector of 512 as a row. -/
theorem cast_toRow512 (v : FVec Ideal S512 .f32) (d : Fin 512) : shapeCast S1x512 v shapeCasts_S512_S1x512 (ix2 (0 : Fin 1) d) = v (ix1 d) :=
  shapeCast_apply _ _ _ _ (by simp [Shape.rowMajor_val_two, Shape.rowMajor_val_one])

variable (X : Fin 16384 → Fin 256 → ℝ) (A : Fin 256 → Fin 512 → ℝ) (a : Fin 512 → ℝ)

section
variable {v35 v37 : FVec Ideal S1x256 .f32} (h35 : ∀ d : Fin 256, v35 (ix2 (0 : Fin 1) d) = ((∑ i, X i d : ℝ) : EReal))
  (h37 : ∀ d : Fin 256, v37 (ix2 (0 : Fin 1) d) = ((∑ i, X i d * X i d : ℝ) : EReal))
include h35

/-- The mean. -/
theorem mean_apply (d : Fin 256) :
    divf (k1_pay1 (F := Ideal) v35) (broadcast S256 (Scalar.ofBits .f32 0x46800000#32)) (ix1 d) = ((mean X d : ℝ) : EReal) := by
  show Ideal.div (shapeCast S256 v35 shapeCasts_S1x256_S256 (ix1 d)) (Ideal.ofBits .f32 0x46800000#32) = _
  rw [cast_row, h35, lit_n, coe_div _ (by norm_num)]; rfl

include h37

/-- The deviation's inverse. -/
theorem pay2_eq (d : Fin 256) : k1_pay2 (F := Ideal) v35 v37 (ix1 d) = (((dev X d)⁻¹ : ℝ) : EReal) := by
  show Ideal.rsqrt (Ideal.div ((Ideal.ofBits .f32 0x38D1B717#32 + Ideal.div (shapeCast S256 v37 shapeCasts_S1x256_S256 (ix1 d)
        - shapeCast S256 v35 shapeCasts_S1x256_S256 (ix1 d)
          * divf (k1_pay1 (F := Ideal) v35) (broadcast S256 (Scalar.ofBits .f32 0x46800000#32)) (ix1 d)) (Ideal.ofBits .f32 0x467FFC00#32)
        * Ideal.ofBits .f32 0x46800000#32)
      + divf (k1_pay1 (F := Ideal) v35) (broadcast S256 (Scalar.ofBits .f32 0x46800000#32)) (ix1 d)
        * divf (k1_pay1 (F := Ideal) v35) (broadcast S256 (Scalar.ofBits .f32 0x46800000#32)) (ix1 d)
        * Ideal.ofBits .f32 0x38D1B717#32) (Ideal.ofBits .f32 0x46800000#32) + Ideal.ofBits .f32 0x322BCC77#32) = _
  rw [mean_apply X h35, cast_row, cast_row, h35, h37, lit_n, lit_n1, lit_e4, lit_e8]
  simp only [← EReal.coe_mul, ← EReal.coe_sub]
  rw [coe_div _ (by norm_num), batchVar_eq]
  simp only [← EReal.coe_mul, ← EReal.coe_add]
  rw [coe_div _ (by norm_num), ← EReal.coe_add]
  exact coe_rsqrt (newVar_pos X d)

/-- The weights scaled by it. -/
theorem pay3_eq {v60 : FVec Ideal S256x512 .f32} (h60 : ∀ d j, v60 (ix2 d j) = ((A d j : ℝ) : EReal)) (d : Fin 256) (j : Fin 512) :
    k1_pay3 (F := Ideal) v35 v37 v60 (ix2 d j) = ((A d j * (dev X d)⁻¹ : ℝ) : EReal) := by
  unfold k1_pay3
  rw [shapeCast_self]
  show v60 (ix2 d j) * broadcastTo S256x512 (shapeCast S256x1 (k1_pay2 (F := Ideal) v35 v37) shapeCasts_S256_S256x1) broadcasts_S256x1_S256x512 (ix2 d j) = _
  rw [broadcastTo_apply _ _ _ (ix2 d (0 : Fin 1)) (fun b => match b with
    | ⟨0, _⟩ => rfl
    | ⟨1, _⟩ => rfl), cast_toCol, pay2_eq X h35 h37, h60, ← EReal.coe_mul]

/-- The bias less what the mean brings. -/
theorem pay4_eq {v60 : FVec Ideal S256x512 .f32} (h60 : ∀ d j, v60 (ix2 d j) = ((A d j : ℝ) : EReal))
    {v68 : FVec Ideal S1x512 .f32} (h68 : ∀ j : Fin 512, v68 (ix2 (0 : Fin 1) j) = ((a j : ℝ) : EReal)) (j : Fin 512) :
    k1_pay4 (F := Ideal) v35 v37 v60 v68 (ix2 (0 : Fin 1) j) = ((a j - ∑ d, mean X d * (dev X d)⁻¹ * A d j : ℝ) : EReal) := by
  unfold k1_pay4
  rw [shapeCast_self, subf_apply, h68]
  have hm := fun l : FVec Ideal S1x256 .f32 => Ideal.matmul_plain_apply (M := 1) (K := 256) (N := 512) none l v60 (constant S1x512 .f32 0x00000000#32) 0 j
  refine (congrArg (((a j : ℝ) : EReal) - ·) (hm _)).trans ?_
  rw [constant_apply, Ideal.ofBits_def, Ideal.ofBits_zero_f32, zero_add, EReal.coe_sub, ← coe_sum]
  refine congrArg _ (Finset.sum_congr rfl fun d _ => ?_)
  rw [cast_toRow]
  exact (congrArg₂ (· * ·) (congrArg₂ (· * ·) (mean_apply X h35 d) (pay2_eq X h35 h37 d)) (h60 d j)).trans
    (by rw [← EReal.coe_mul, ← EReal.coe_mul])

end

section
variable {x1 : FVec Ideal S8x256 .f32} (hs : ∀ d : Fin 256, x1 (ix2 (0 : Fin 8) d) = ((∑ i, X i d : ℝ) : EReal))
  (hq : ∀ d : Fin 256, x1 (ix2 (1 : Fin 8) d) = ((∑ i, X i d * X i d : ℝ) : EReal))

/-- The statistics' first row, as loaded, -/
theorem ld_row0 (d : Fin 256) :
    View.ld (Val := Elt Ideal) (e' := .f32) x1 (Rect.unit (s := S8x256) ![0, 0] S1x256.size inb_S8x256_S1x256_0_0) (ix2 (0 : Fin 1) d) = x1 (ix2 (0 : Fin 8) d) :=
  congrArg x1 (funext fun b => Fin.ext (match b with
    | ⟨0, _⟩ => rfl
    | ⟨1, _⟩ => by show 0 + 1 * d.val = d.val; omega))

/-- and its second. -/
theorem ld_row1 (d : Fin 256) :
    View.ld (Val := Elt Ideal) (e' := .f32) x1 (Rect.unit (s := S8x256) ![1, 0] S1x256.size inb_S8x256_S1x256_1_0) (ix2 (0 : Fin 1) d) = x1 (ix2 (1 : Fin 8) d) :=
  congrArg x1 (funext fun b => Fin.ext (match b with
    | ⟨0, _⟩ => rfl
    | ⟨1, _⟩ => by show 0 + 1 * d.val = d.val; omega))

include hs hq

/-- The kept weights. -/
theorem wScaled_eq {x2 : FVec Ideal S256x512 .f32} (h2 : ∀ d j, x2 (ix2 d j) = ((A d j : ℝ) : EReal)) (d : Fin 256) (j : Fin 512) :
    wScaled (F := Ideal) x1 x2 (ix2 d j) = ((A d j * (dev X d)⁻¹ : ℝ) : EReal) :=
  pay3_eq X A (fun d => (ld_row0 d).trans (hs d)) (fun d => (ld_row1 d).trans (hq d)) h2 d j

/-- The kept bias. -/
theorem biasShift_eq {x2 : FVec Ideal S256x512 .f32} (h2 : ∀ d j, x2 (ix2 d j) = ((A d j : ℝ) : EReal))
    {x3 : FVec Ideal S1x512 .f32} (h3 : ∀ j : Fin 512, x3 (ix2 (0 : Fin 1) j) = ((a j : ℝ) : EReal)) (j : Fin 512) :
    biasShift (F := Ideal) x1 x2 x3 (ix2 (0 : Fin 1) j) = ((a j - ∑ d, mean X d * (dev X d)⁻¹ * A d j : ℝ) : EReal) := by
  unfold biasShift k1_pay5
  rw [shapeCast_self]
  exact pay4_eq X A a (fun d => (ld_row0 d).trans (hs d)) (fun d => (ld_row1 d).trans (hq d)) h2 h3 j

end

/-- The kept second weights are the second weights. -/
theorem w2Cast_eq (x4 : FVec Ideal S512x512 .f32) (i : S512x512.Idx) : w2Cast (F := Ideal) x4 i = x4 i := by
  unfold w2Cast k1_pay6
  rw [shapeCast_self]; rfl

variable {x6 : FVec Ideal S512x512 .f32} {H : Fin 512 → Fin 512 → ℝ} (h6 : ∀ k q, x6 (ix2 k q) = ((H k q : ℝ) : EReal))
include h6

/-- The kept history is twice its opposite, -/
theorem hTwice_eq (k q : Fin 512) : hTwice (F := Ideal) x6 (ix2 k q) = ((H k q * -2 : ℝ) : EReal) := by
  unfold hTwice k1_pay9 k1_pay7
  rw [shapeCast_self, shapeCast_self]
  show x6 (ix2 k q) * Ideal.ofBits .f32 0xC0000000#32 = _
  rw [h6, lit_neg_two, ← EReal.coe_mul]

/-- and the kept squared lengths are its rows'. -/
theorem hNorm_eq (k : Fin 512) : hNorm (F := Ideal) x6 (ix2 (0 : Fin 1) k) = ((∑ q, H k q * H k q : ℝ) : EReal) := by
  unfold hNorm k1_pay8 k1_pay7
  rw [shapeCast_self, shapeCast_self, cast_toRow512]
  refine (Ideal.multiReduction_add_single _ _ _ _ _ _).trans ?_
  rw [← coe_sum]
  refine Finset.sum_congr rfl fun q _ => ?_
  have : (reduces_S512x512_S512).lift (ix1 k) q = ix2 k (q : Fin 512) := funext fun b => match b with
    | ⟨0, _⟩ => rfl
    | ⟨1, _⟩ => rfl
  rw [this]
  exact (congrArg₂ (· * ·) (h6 k q) (h6 k q)).trans (by rw [← EReal.coe_mul])

end Cert.KernelIdeal.KeptValue

end
-- ==== Proof.HostValue.lean ====
/- What the host operations and the statistics call leave for the distance call, at real arguments. -/
module

public import proofs.«01_k».proof.Proof.RunIdeal
public import proofs.«01_k».proof.Proof.StatsValue
public import proofs.«01_k».proof.Proof.KeptValue

@[expose] public section

set_option maxRecDepth 16384

noncomputable section

namespace Cert.KernelIdeal.HostValue

open Idealize.ShloMosaic Idealize.ShloMosaic.ValueIdx Idealize.ShloMosaic.TcCoe Idealize.ShloMosaic.Tactic
open Cert.KernelIdeal.Gen Cert.KernelIdeal.Regions Cert.KernelIdeal.Run
open Cert.KernelIdeal.KeptValue Cert.KernelIdeal.StatsValue
open Cert.Maths Cert.Extended

variable (m : (ℓ : Loc nD τ sig) → Buf (Elt Ideal) ℓ) (ρ : Dev nD → PrngReg) (c : Dev nD)

/-- The history with twelve filling rows below it. -/
theorem V1_rows : V1 m ρ c main_v1
    = concatenate S512x512 0 [⟨S500x512, m ((c : Thread nD τ).loc main_arg5)⟩,
        ⟨S12x512, broadcastInDim S12x512 ![] bcast_S_S12x512 (constant (F := Ideal) S_ .f32 0x58635FA9#32)⟩]
        concatenates_S500x512_S12x512_S512x512_d0 := by
  show StableHlo.after hostOps0 (W0 m ρ c) main_v1 = _
  unfold hostOps0
  after_results_simp
  rfl

/-- The first bias as a row, -/
theorem V1_bias1 : V1 m ρ c main_v2
    = shapeCast S1x512 (m ((c : Thread nD τ).loc main_arg2)) shapeCasts_S512_S1x512 := by
  show StableHlo.after hostOps0 (W0 m ρ c) main_v2 = _
  unfold hostOps0
  after_results_simp
  rfl

/-- and the second. -/
theorem V1_bias2 : V1 m ρ c main_v3
    = shapeCast S1x512 (m ((c : Thread nD τ).loc main_arg4)) shapeCasts_S512_S1x512 := by
  show StableHlo.after hostOps0 (W0 m ρ c) main_v3 = _
  unfold hostOps0
  after_results_simp
  rfl

/-- The filled history's entries. -/
theorem rows_apply {x : FVec Ideal S500x512 .f32} {H : Fin 500 → Fin 512 → ℝ} (hH : ∀ (k : Fin 500) (q : Fin 512), x (ix2 k q) = ((H k q : ℝ) : EReal))
    (k q : Fin 512) :
    concatenate S512x512 0 [⟨S500x512, x⟩,
        ⟨S12x512, broadcastInDim S12x512 ![] bcast_S_S12x512 (constant (F := Ideal) S_ .f32 0x58635FA9#32)⟩]
        concatenates_S500x512_S12x512_S512x512_d0 (ix2 k q) = ((row H k q : ℝ) : EReal) := by
  unfold row
  split
  · next h =>
    rw [← hH]
    exact concatenate_apply_piece (t := S512x512) 0 _ _ _ 0 (by simp) S500x512 _ rfl rfl 0 rfl (ix2 (⟨k.val, h⟩ : Fin 500) q)
      (fun b hb => match b with
        | ⟨0, _⟩ => absurd rfl hb
        | ⟨1, _⟩ => rfl) (by simp)
  · next h =>
    rw [← lit_far]
    refine (concatenate_apply_piece (t := S512x512) 0 _ _ _ 1 (by simp) S12x512 _ rfl rfl 500 rfl (ix2 (⟨k.val - 500, by omega⟩ : Fin 12) q)
      (fun b hb => match b with
        | ⟨0, _⟩ => absurd rfl hb
        | ⟨1, _⟩ => rfl) (by show 500 + (k.val - 500) = k.val; omega)).trans ?_
    exact broadcastInDim_apply _ _ _ _ ix0 (fun a => a.elim0)

section
variable {m c}
variable {X : Fin 16384 → Fin 256 → ℝ} {a : Fin 512 → ℝ} {H : Fin 500 → Fin 512 → ℝ}

/-- The distance call finds the columns' sums -/
theorem V2_sum (hx : m ((c : Thread nD τ).loc main_arg0) = fun i : S16384x256.Idx => ((X (i 0) (i 1) : ℝ) : EReal)) (d : Fin 256) :
    V2 m ρ c main_v4 (ix2 (0 : Fin 8) d) = ((∑ i, X i d : ℝ) : EReal) := by
  have e : V2 m ρ c main_v4 = acc0 (V1 m ρ) c 7 (by decide) := (W2_arr m ρ c 1).trans (arr0 (V1 m ρ) c (by decide))
  rw [e]
  exact acc0_sum (V1 m ρ) X c ((W1_args m ρ c main_arg0 (by decide)).trans hx) d _

/-- and sums of squares, -/
theorem V2_sq (hx : m ((c : Thread nD τ).loc main_arg0) = fun i : S16384x256.Idx => ((X (i 0) (i 1) : ℝ) : EReal)) (d : Fin 256) :
    V2 m ρ c main_v4 (ix2 (1 : Fin 8) d) = ((∑ i, X i d * X i d : ℝ) : EReal) := by
  have e : V2 m ρ c main_v4 = acc0 (V1 m ρ) c 7 (by decide) := (W2_arr m ρ c 1).trans (arr0 (V1 m ρ) c (by decide))
  rw [e]
  exact acc0_sq (V1 m ρ) X c ((W1_args m ρ c main_arg0 (by decide)).trans hx) d _

/-- the filled history, -/
theorem V2_rows (hH : ∀ (k : Fin 500) (q : Fin 512), m ((c : Thread nD τ).loc main_arg5) (ix2 k q) = ((H k q : ℝ) : EReal)) (k q : Fin 512) :
    V2 m ρ c main_v1 (ix2 k q) = ((row H k q : ℝ) : EReal) := by
  have e : V2 m ρ c main_v1 = V1 m ρ c main_v1 := W2_of_ne m ρ c main_v1 (by decide)
  rw [e, V1_rows]
  exact rows_apply hH k q

/-- the first bias -/
theorem V2_bias1 (ha : ∀ j : Fin 512, m ((c : Thread nD τ).loc main_arg2) (ix1 j) = ((a j : ℝ) : EReal)) (j : Fin 512) :
    V2 m ρ c main_v2 (ix2 (0 : Fin 1) j) = ((a j : ℝ) : EReal) := by
  have e : V2 m ρ c main_v2 = V1 m ρ c main_v2 := W2_of_ne m ρ c main_v2 (by decide)
  rw [e, V1_bias1]
  exact (cast_toRow512 _ j).trans (ha j)

/-- and the second. -/
theorem V2_bias2 (ha : ∀ j : Fin 512, m ((c : Thread nD τ).loc main_arg4) (ix1 j) = ((a j : ℝ) : EReal)) (j : Fin 512) :
    V2 m ρ c main_v3 (ix2 (0 : Fin 1) j) = ((a j : ℝ) : EReal) := by
  have e : V2 m ρ c main_v3 = V1 m ρ c main_v3 := W2_of_ne m ρ c main_v3 (by decide)
  rw [e, V1_bias2]
  exact (cast_toRow512 _ j).trans (ha j)

end

end Cert.KernelIdeal.HostValue

end
-- ==== Proof.PointValue.lean ====
/- What one point of the distance call stores, at real arguments: each of its rows' least distance. -/
module

public import proofs.«01_k».proof.Proof.KeptValue

@[expose] public section

set_option maxRecDepth 16384

noncomputable section

namespace Cert.KernelIdeal.PointValue

open Idealize.ShloMosaic Idealize.ShloMosaic.ValueIdx
open Cert.KernelIdeal.Gen Cert.KernelIdeal.Call1
open Cert.Maths Cert.Extended

/-- A vector of 512 as a column. -/
theorem cast_toCol512 (v : FVec Ideal S512 .f32) (r : Fin 512) :
    shapeCast S512x1 v shapeCasts_S512_S512x1 (ix2 r (0 : Fin 1)) = v (ix1 r) :=
  shapeCast_apply _ _ _ _ (by simp [Shape.rowMajor_val_two, Shape.rowMajor_val_one])

/-- A row laid under every row. -/
theorem row_apply (v : FVec Ideal S1x512 .f32) (r j : Fin 512) :
    broadcastTo S512x512 v broadcasts_S1x512_S512x512 (ix2 r j) = v (ix2 (0 : Fin 1) j) :=
  broadcastTo_apply _ _ _ _ (fun b => match b with
    | ⟨0, _⟩ => rfl
    | ⟨1, _⟩ => rfl)

/-- The point's hidden layer, -/
def hiddenAt (v3 : FVec Ideal S512x256 .f32) (v5 : FVec Ideal S256x512 .bf16) (v7 : FVec Ideal S1x512 .f32) : FVec Ideal S512x512 .f32 :=
  maximumf (addf (matmul dot_S512x256_S256x512_S512x512_1_0_0_1_n_n none (truncf .bf16 v3 bitsLt_bf16_f32) v5
    (constant S512x512 .f32 0x00000000#32)) (broadcastTo S512x512 v7 broadcasts_S1x512_S512x512))
    (broadcast S512x512 (Scalar.ofBits .f32 0x00000000#32))

/-- its embedding, -/
def embedAt (h : FVec Ideal S512x512 .f32) (v13 : FVec Ideal S512x512 .bf16) (v15 : FVec Ideal S1x512 .f32) : FVec Ideal S512x512 .f32 :=
  addf (matmul dot_S512x512_S512x512_S512x512_1_0_0_1_n_n none (truncf .bf16 h bitsLt_bf16_f32) v13
    (constant S512x512 .f32 0x00000000#32)) (broadcastTo S512x512 (shapeCast S1x512 v15 shapeCasts_S1x512_S1x512) broadcasts_S1x512_S512x512)

/-- and the parts of the squared distances. -/
def partAt (e : FVec Ideal S512x512 .f32) (v23 : FVec Ideal S512x512 .bf16) (v25 : FVec Ideal S1x512 .f32) : FVec Ideal S512x512 .f32 :=
  addf (matmul dot_S512x512_S512x512_S512x512_1_1_0_0_n_n none (truncf .bf16 e bitsLt_bf16_f32) v23
    (constant S512x512 .f32 0x00000000#32)) (broadcastTo S512x512 v25 broadcasts_S1x512_S512x512)

/-- What the point stores, out of those. -/
theorem point_unfold (v3 : FVec Ideal S512x256 .f32) (v5 : FVec Ideal S256x512 .bf16) (v7 : FVec Ideal S1x512 .f32)
    (v13 : FVec Ideal S512x512 .bf16) (v15 : FVec Ideal S1x512 .f32) (v23 : FVec Ideal S512x512 .bf16) (v25 : FVec Ideal S1x512 .f32) :
    point (F := Ideal) v3 v5 v7 v13 v15 v23 v25
      = sqrt (maximumf (addf
          (shapeCast S512x1 (multiReduction .minimumf [1] S512 (partAt (embedAt (hiddenAt v3 v5 v7) v13 v15) v23 v25)
            0x7F800000#32 reduces_S512x512_S512 (.inl rfl) rfl) shapeCasts_S512_S512x1)
          (shapeCast S512x1 (multiReduction .add [1] S512 (mulf (embedAt (hiddenAt v3 v5 v7) v13 v15) (embedAt (hiddenAt v3 v5 v7) v13 v15))
            0x00000000#32 reduces_S512x512_S512 (.inl rfl) rfl) shapeCasts_S512_S512x1))
        (broadcast S512x1 (Scalar.ofBits .f32 0x2B8CBCCC#32))) := rfl

section
variable {v3 : FVec Ideal S512x256 .f32} {v5 : FVec Ideal S256x512 .bf16} {v7 : FVec Ideal S1x512 .f32} {r : Fin 512}
  {x : Fin 256 → ℝ} {w : Fin 256 → Fin 512 → ℝ} {s : Fin 512 → ℝ}

/-- The hidden layer's entries. -/
theorem hiddenAt_eq (h3 : ∀ d, v3 (ix2 r d) = ((x d : ℝ) : EReal)) (h5 : ∀ d j, v5 (ix2 d j) = ((w d j : ℝ) : EReal))
    (h7 : ∀ j : Fin 512, v7 (ix2 (0 : Fin 1) j) = ((s j : ℝ) : EReal)) (j : Fin 512) :
    hiddenAt v3 v5 v7 (ix2 r j) = ((max ((∑ d, x d * w d j) + s j) 0 : ℝ) : EReal) := by
  unfold hiddenAt
  have hm := Ideal.matmul_plain_apply (M := 512) (K := 256) (N := 512) none (truncf .bf16 v3 bitsLt_bf16_f32) v5 (constant S512x512 .f32 0x00000000#32) r j
  rw [maximumf_apply, addf_apply, row_apply, h7]
  refine (congrArg (fun t : EReal => max (t + ((s j : ℝ) : EReal)) (Ideal.ofBits .f32 0x00000000#32)) hm).trans ?_
  rw [constant_apply, Ideal.ofBits_zero_f32, zero_add,
    Finset.sum_congr rfl fun d _ => show (truncf .bf16 v3 bitsLt_bf16_f32) (ix2 r d) * v5 (ix2 d j) = ((x d * w d j : ℝ) : EReal) from by
      rw [h5, EReal.coe_mul, ← h3]; rfl,
    coe_sum, ← EReal.coe_add, ← EReal.coe_zero, coe_max]

variable {h : FVec Ideal S512x512 .f32} {v13 : FVec Ideal S512x512 .bf16} {v15 : FVec Ideal S1x512 .f32}
  {hr : Fin 512 → ℝ} {B : Fin 512 → Fin 512 → ℝ} {b : Fin 512 → ℝ}

/-- The embedding's entries. -/
theorem embedAt_eq (hh : ∀ j, h (ix2 r j) = ((hr j : ℝ) : EReal)) (h13 : ∀ j k, v13 (ix2 j k) = ((B j k : ℝ) : EReal))
    (h15 : ∀ k : Fin 512, v15 (ix2 (0 : Fin 1) k) = ((b k : ℝ) : EReal)) (k : Fin 512) :
    embedAt h v13 v15 (ix2 r k) = (((∑ j, hr j * B j k) + b k : ℝ) : EReal) := by
  unfold embedAt
  have hm := Ideal.matmul_plain_apply (M := 512) (K := 512) (N := 512) none (truncf .bf16 h bitsLt_bf16_f32) v13 (constant S512x512 .f32 0x00000000#32) r k
  rw [addf_apply, row_apply, shapeCast_self, h15]
  refine (congrArg (fun t : EReal => t + ((b k : ℝ) : EReal)) hm).trans ?_
  rw [constant_apply, Ideal.ofBits_zero_f32, zero_add,
    Finset.sum_congr rfl fun j _ => show (truncf .bf16 h bitsLt_bf16_f32) (ix2 r j) * v13 (ix2 j k) = ((hr j * B j k : ℝ) : EReal) from by
      rw [h13, EReal.coe_mul, ← hh]; rfl,
    coe_sum, ← EReal.coe_add]

variable {e : FVec Ideal S512x512 .f32} {v23 : FVec Ideal S512x512 .bf16} {v25 : FVec Ideal S1x512 .f32}
  {er : Fin 512 → ℝ} {H : Fin 512 → Fin 512 → ℝ}

/-- The parts. -/
theorem partAt_eq (he : ∀ k, e (ix2 r k) = ((er k : ℝ) : EReal)) (h23 : ∀ k q, v23 (ix2 k q) = ((H k q * -2 : ℝ) : EReal))
    (h25 : ∀ k : Fin 512, v25 (ix2 (0 : Fin 1) k) = ((∑ q, H k q * H k q : ℝ) : EReal)) (k : Fin 512) :
    partAt e v23 v25 (ix2 r k) = ((part er (H k) : ℝ) : EReal) := by
  unfold partAt
  have hm := Ideal.matmul_transposedRhs_apply (M := 512) (K := 512) (N := 512) none (truncf .bf16 e bitsLt_bf16_f32) v23 (constant S512x512 .f32 0x00000000#32) r k
  rw [addf_apply, row_apply, h25]
  refine (congrArg (fun t : EReal => t + ((∑ q, H k q * H k q : ℝ) : EReal)) hm).trans ?_
  rw [constant_apply, Ideal.ofBits_zero_f32, zero_add,
    Finset.sum_congr rfl fun q _ => show (truncf .bf16 e bitsLt_bf16_f32) (ix2 r q) * v23 (ix2 k q) = ((er q * (H k q * -2) : ℝ) : EReal) from by
      rw [h23, EReal.coe_mul (er q), ← he]; rfl,
    coe_sum, ← EReal.coe_add]; rfl

end

/-- The least entry of a row. -/
theorem min_row (p : FVec Ideal S512x512 .f32) (r : Fin 512) :
    multiReduction .minimumf [1] S512 p 0x7F800000#32 reduces_S512x512_S512 (.inl rfl) rfl (ix1 r)
      = Finset.univ.inf fun k : Fin 512 => p (ix2 r k) := by
  refine (multiReduction_minimumf_eq_fold _ _ _ _ _ _).trans ?_
  refine ((reduces_S512x512_S512).fold_filter_drop_single _ _ p (ix1 r)).trans ?_
  rw [Ideal.ofBits_def, lit_top]
  refine Finset.fold_congr fun k _ => congrArg p (funext fun b => ?_)
  match b with
  | ⟨0, _⟩ => rfl
  | ⟨1, _⟩ => rfl

/-- The sum of a row's squares. -/
theorem sq_row (e : FVec Ideal S512x512 .f32) (r : Fin 512) (er : Fin 512 → ℝ) (he : ∀ k, e (ix2 r k) = ((er k : ℝ) : EReal)) :
    multiReduction .add [1] S512 (mulf e e) 0x00000000#32 reduces_S512x512_S512 (.inl rfl) rfl (ix1 r) = ((len er : ℝ) : EReal) := by
  refine (Ideal.multiReduction_add_single _ _ _ _ _ _).trans ?_
  unfold len
  rw [← coe_sum]
  refine Finset.sum_congr rfl fun q _ => ?_
  have : (reduces_S512x512_S512).lift (ix1 r) q = ix2 r (q : Fin 512) := funext fun b => match b with
    | ⟨0, _⟩ => rfl
    | ⟨1, _⟩ => rfl
  rw [this]
  exact (congrArg₂ (· * ·) (he q) (he q)).trans (by rw [← EReal.coe_mul])

/-- The root the point takes. -/
theorem root_apply (p q : FVec Ideal S512x1 .f32) (i : S512x1.Idx) :
    sqrt (maximumf (addf p q) (broadcast S512x1 (Scalar.ofBits .f32 0x2B8CBCCC#32))) i = root (p i + q i) := by
  unfold root
  rw [← lit_e12]
  rfl

/-- What the point stores for row `r`: the root of the least part and the embedding's squared length. -/
theorem point_eq {v3 : FVec Ideal S512x256 .f32} {v5 : FVec Ideal S256x512 .bf16} {v7 : FVec Ideal S1x512 .f32}
    {v13 : FVec Ideal S512x512 .bf16} {v15 : FVec Ideal S1x512 .f32} {v23 : FVec Ideal S512x512 .bf16} {v25 : FVec Ideal S1x512 .f32}
    {r : Fin 512} {x : Fin 256 → ℝ} {w : Fin 256 → Fin 512 → ℝ} {s : Fin 512 → ℝ} {B : Fin 512 → Fin 512 → ℝ} {b : Fin 512 → ℝ}
    {H : Fin 512 → Fin 512 → ℝ} {er : Fin 512 → ℝ}
    (h3 : ∀ d, v3 (ix2 r d) = ((x d : ℝ) : EReal)) (h5 : ∀ d j, v5 (ix2 d j) = ((w d j : ℝ) : EReal))
    (h7 : ∀ j : Fin 512, v7 (ix2 (0 : Fin 1) j) = ((s j : ℝ) : EReal)) (h13 : ∀ j k, v13 (ix2 j k) = ((B j k : ℝ) : EReal))
    (h15 : ∀ k : Fin 512, v15 (ix2 (0 : Fin 1) k) = ((b k : ℝ) : EReal)) (h23 : ∀ k q, v23 (ix2 k q) = ((H k q * -2 : ℝ) : EReal))
    (h25 : ∀ k : Fin 512, v25 (ix2 (0 : Fin 1) k) = ((∑ q, H k q * H k q : ℝ) : EReal))
    (her : ∀ k, (∑ j, max ((∑ d, x d * w d j) + s j) 0 * B j k) + b k = er k) :
    point (F := Ideal) v3 v5 v7 v13 v15 v23 v25 (ix2 r (0 : Fin 1))
      = root ((Finset.univ.inf fun k : Fin 512 => ((part er (H k) : ℝ) : EReal)) + ((len er : ℝ) : EReal)) := by
  have he : ∀ k, embedAt (hiddenAt v3 v5 v7) v13 v15 (ix2 r k) = ((er k : ℝ) : EReal) := fun k => by
    rw [embedAt_eq (hiddenAt_eq h3 h5 h7) h13 h15 k, her]
  rw [point_unfold]
  generalize embedAt (hiddenAt v3 v5 v7) v13 v15 = e at he
  rw [root_apply, cast_toCol512, cast_toCol512, min_row, sq_row e r er he]
  simp only [partAt_eq he h23 h25]

end Cert.KernelIdeal.PointValue

end
-- ==== Proof.MainArray.lean ====
/- What the distance call leaves in its result, when its arrays hold real numbers. -/
module

public import proofs.«01_k».proof.Proof.RegionsIdeal
public import proofs.«01_k».proof.Proof.PointValue
public import Idealize.ShloMosaic.Lib.Pipeline.ValueKit.Geometry

@[expose] public section

set_option maxRecDepth 16384

noncomputable section

namespace Cert.KernelIdeal.MainArray

open Idealize.ShloMosaic Idealize.ShloMosaic.ValueIdx Idealize.ShloMosaic.TcCoe
open Cert.KernelIdeal.Gen Cert.KernelIdeal.Regions Cert.KernelIdeal.Call1
open Cert.KernelIdeal.KeptValue Cert.KernelIdeal.PointValue
open Cert.Maths Cert.Extended

variable (V : (c : Dev nD) → (b : Ref sig .tc) → Buf (Elt Ideal) ((c : Thread nD τ).loc b))

/-- The batch's block moves with the point; -/
theorem index1_0 : ∀ t : Fin cfg1.N, (cfg1.win 0).index t = ![t.val, 0] :=
  (by decide +kernel : ∀ t : Fin grid1.N, win1_0.index t = ![t.val, 0])
/-- window 1's block is its whole array; -/
theorem index1_1 : ∀ t : Fin cfg1.N, (cfg1.win 1).index t = ![0, 0] :=
  (by decide +kernel : ∀ t : Fin grid1.N, win1_1.index t = ![0, 0])
/-- window 2's block is its whole array; -/
theorem index1_2 : ∀ t : Fin cfg1.N, (cfg1.win 2).index t = ![0, 0] :=
  (by decide +kernel : ∀ t : Fin grid1.N, win1_2.index t = ![0, 0])
/-- window 3's block is its whole array; -/
theorem index1_3 : ∀ t : Fin cfg1.N, (cfg1.win 3).index t = ![0, 0] :=
  (by decide +kernel : ∀ t : Fin grid1.N, win1_3.index t = ![0, 0])
/-- window 4's block is its whole array; -/
theorem index1_4 : ∀ t : Fin cfg1.N, (cfg1.win 4).index t = ![0, 0] :=
  (by decide +kernel : ∀ t : Fin grid1.N, win1_4.index t = ![0, 0])
/-- window 5's block is its whole array; -/
theorem index1_5 : ∀ t : Fin cfg1.N, (cfg1.win 5).index t = ![0, 0] :=
  (by decide +kernel : ∀ t : Fin grid1.N, win1_5.index t = ![0, 0])
/-- window 6's block is its whole array; -/
theorem index1_6 : ∀ t : Fin cfg1.N, (cfg1.win 6).index t = ![0, 0] :=
  (by decide +kernel : ∀ t : Fin grid1.N, win1_6.index t = ![0, 0])
/-- the result's moves with the point. -/
theorem index1_7 : ∀ t : Fin cfg1.N, (cfg1.win 7).index t = ![t.val, 0] :=
  (by decide +kernel : ∀ t : Fin grid1.N, win1_7.index t = ![t.val, 0])

/-- An entry of the batch's block, 512 rows to a block, -/
theorem iblk1_0 (c : Dev nD) (t : Fin cfg1.N) (r : Fin 512) (d : Fin 256) (h : 512 * t.val + r.val < 16384) :
    iblk1 V c 0 t (ix2 r d) = V c main_arg0 (ix2 (⟨512 * t.val + r.val, h⟩ : Fin 16384) d) := by
  unfold iblk1
  show V c main_arg0 _ = V c main_arg0 _
  congr 1
  have e := index1_0 t
  funext a
  apply Fin.ext
  match a with
  | ⟨0, _⟩ =>
    show (cfg1.win 0).index t 0 * 512 + 1 * r.val = 512 * t.val + r.val
    rw [e]; simp; omega
  | ⟨1, _⟩ =>
    show (cfg1.win 0).index t 1 * 256 + 1 * d.val = d.val
    rw [e]; simp

/-- of the statistics, -/
theorem iblk1_1 (c : Dev nD) (t : Fin cfg1.N) (i : Fin 8) (d : Fin 256) : iblk1 V c 1 t (ix2 i d) = V c main_v4 (ix2 i d) := by
  unfold iblk1
  show V c main_v4 _ = V c main_v4 _
  congr 1
  have e := index1_1 t
  funext a
  apply Fin.ext
  match a with
  | ⟨0, _⟩ =>
    show (cfg1.win 1).index t 0 * 8 + 1 * i.val = i.val
    rw [e]; simp
  | ⟨1, _⟩ =>
    show (cfg1.win 1).index t 1 * 256 + 1 * d.val = d.val
    rw [e]; simp

/-- of the first layer's weights -/
theorem iblk1_2 (c : Dev nD) (t : Fin cfg1.N) (d : Fin 256) (j : Fin 512) : iblk1 V c 2 t (ix2 d j) = V c main_arg1 (ix2 d j) := by
  unfold iblk1
  show V c main_arg1 _ = V c main_arg1 _
  congr 1
  have e := index1_2 t
  funext a
  apply Fin.ext
  match a with
  | ⟨0, _⟩ =>
    show (cfg1.win 2).index t 0 * 256 + 1 * d.val = d.val
    rw [e]; simp
  | ⟨1, _⟩ =>
    show (cfg1.win 2).index t 1 * 512 + 1 * j.val = j.val
    rw [e]; simp

/-- and bias, -/
theorem iblk1_3 (c : Dev nD) (t : Fin cfg1.N) (j : Fin 512) : iblk1 V c 3 t (ix2 (0 : Fin 1) j) = V c main_v2 (ix2 (0 : Fin 1) j) := by
  unfold iblk1
  show V c main_v2 _ = V c main_v2 _
  congr 1
  have e := index1_3 t
  funext a
  apply Fin.ext
  match a with
  | ⟨0, _⟩ =>
    show (cfg1.win 3).index t 0 * 1 + 1 * (0 : Fin 1).val = (0 : Fin 1).val
    rw [e]; simp
  | ⟨1, _⟩ =>
    show (cfg1.win 3).index t 1 * 512 + 1 * j.val = j.val
    rw [e]; simp

/-- of the second layer's weights -/
theorem iblk1_4 (c : Dev nD) (t : Fin cfg1.N) (j k : Fin 512) : iblk1 V c 4 t (ix2 j k) = V c main_arg3 (ix2 j k) := by
  unfold iblk1
  show V c main_arg3 _ = V c main_arg3 _
  congr 1
  have e := index1_4 t
  funext a
  apply Fin.ext
  match a with
  | ⟨0, _⟩ =>
    show (cfg1.win 4).index t 0 * 512 + 1 * j.val = j.val
    rw [e]; simp
  | ⟨1, _⟩ =>
    show (cfg1.win 4).index t 1 * 512 + 1 * k.val = k.val
    rw [e]; simp

/-- and bias, -/
theorem iblk1_5 (c : Dev nD) (t : Fin cfg1.N) (k : Fin 512) : iblk1 V c 5 t (ix2 (0 : Fin 1) k) = V c main_v3 (ix2 (0 : Fin 1) k) := by
  unfold iblk1
  show V c main_v3 _ = V c main_v3 _
  congr 1
  have e := index1_5 t
  funext a
  apply Fin.ext
  match a with
  | ⟨0, _⟩ =>
    show (cfg1.win 5).index t 0 * 1 + 1 * (0 : Fin 1).val = (0 : Fin 1).val
    rw [e]; simp
  | ⟨1, _⟩ =>
    show (cfg1.win 5).index t 1 * 512 + 1 * k.val = k.val
    rw [e]; simp

/-- and of the rows measured against. -/
theorem iblk1_6 (c : Dev nD) (t : Fin cfg1.N) (k q : Fin 512) : iblk1 V c 6 t (ix2 k q) = V c main_v1 (ix2 k q) := by
  unfold iblk1
  show V c main_v1 _ = V c main_v1 _
  congr 1
  have e := index1_6 t
  funext a
  apply Fin.ext
  match a with
  | ⟨0, _⟩ =>
    show (cfg1.win 6).index t 0 * 512 + 1 * k.val = k.val
    rw [e]; simp
  | ⟨1, _⟩ =>
    show (cfg1.win 6).index t 1 * 512 + 1 * q.val = q.val
    rw [e]; simp

/-- Whatever index a column of one entry has, it is the first's. -/
theorem col_eq (y : S512x1.Idx) : y = ix2 (y 0 : Fin 512) (0 : Fin 1) :=
  funext fun a => match a with
    | ⟨0, _⟩ => rfl
    | ⟨1, _⟩ => Subsingleton.elim (α := Fin 1) _ _

/-- The distance of row `i`'s embedding to the nearest of the rows `H`. -/
def least (X : Fin 16384 → Fin 256 → ℝ) (A : Fin 256 → Fin 512 → ℝ) (a : Fin 512 → ℝ) (B : Fin 512 → Fin 512 → ℝ) (b : Fin 512 → ℝ)
    (H : Fin 512 → Fin 512 → ℝ) (i : Fin 16384) : EReal :=
  root ((Finset.univ.inf fun k : Fin 512 => ((part (embed X A a B b i) (H k) : ℝ) : EReal)) + ((len (embed X A a B b i) : ℝ) : EReal))

section
variable {V}
variable {c : Dev nD} {X : Fin 16384 → Fin 256 → ℝ} {A : Fin 256 → Fin 512 → ℝ} {a : Fin 512 → ℝ} {B : Fin 512 → Fin 512 → ℝ}
  {b : Fin 512 → ℝ} {H : Fin 512 → Fin 512 → ℝ}
  (hx : ∀ (i : Fin 16384) (d : Fin 256), V c main_arg0 (ix2 i d) = ((X i d : ℝ) : EReal))
  (hs : ∀ d : Fin 256, V c main_v4 (ix2 (0 : Fin 8) d) = ((∑ i, X i d : ℝ) : EReal))
  (hq : ∀ d : Fin 256, V c main_v4 (ix2 (1 : Fin 8) d) = ((∑ i, X i d * X i d : ℝ) : EReal))
  (hA : ∀ (d : Fin 256) (j : Fin 512), V c main_arg1 (ix2 d j) = ((A d j : ℝ) : EReal))
  (ha : ∀ j : Fin 512, V c main_v2 (ix2 (0 : Fin 1) j) = ((a j : ℝ) : EReal))
  (hB : ∀ j k : Fin 512, V c main_arg3 (ix2 j k) = ((B j k : ℝ) : EReal))
  (hb : ∀ k : Fin 512, V c main_v3 (ix2 (0 : Fin 1) k) = ((b k : ℝ) : EReal))
  (hH : ∀ k q : Fin 512, V c main_v1 (ix2 k q) = ((H k q : ℝ) : EReal))
include hx hs hq hA ha hB hb hH

/-- A point stores its rows' least distances. -/
theorem out1_eq (t : Fin cfg1.N) (r : Fin 512) (h : 512 * t.val + r.val < 16384) :
    out1 V c t (ix2 r (0 : Fin 1)) = least X A a B b H ⟨512 * t.val + r.val, h⟩ := by
  unfold out1 kWScaled kBias kW2 kHTwice kHNorm least
  exact point_eq (x := X ⟨512 * t.val + r.val, h⟩)
    (fun d => (iblk1_0 V c t r d h).trans (hx _ d))
    (wScaled_eq X A (fun d => (iblk1_1 V c p0 0 d).trans (hs d)) (fun d => (iblk1_1 V c p0 1 d).trans (hq d))
      (fun d j => (iblk1_2 V c p0 d j).trans (hA d j)))
    (biasShift_eq X A a (fun d => (iblk1_1 V c p0 0 d).trans (hs d)) (fun d => (iblk1_1 V c p0 1 d).trans (hq d))
      (fun d j => (iblk1_2 V c p0 d j).trans (hA d j)) (fun j => (iblk1_3 V c p0 j).trans (ha j)))
    (fun j k => (w2Cast_eq _ _).trans ((iblk1_4 V c p0 j k).trans (hB j k)))
    (fun k => (iblk1_5 V c t k).trans (hb k))
    (hTwice_eq fun k q => (iblk1_6 V c p0 k q).trans (hH k q))
    (hNorm_eq fun k q => (iblk1_6 V c p0 k q).trans (hH k q))
    (fun k => by unfold embed; simp only [hidden_eq])

/-- The result ends holding every row's least distance. -/
theorem arr1 : (dat1 V c).arrAt 7 cfg1.N = fun i : S16384x1.Idx => least X A a B b H (i 0) := by
  refine (dat1 V c).arrAt_eq_of_covers 7 _ (by decide +kernel) fun t hf y => ?_
  have ht : t.val < 32 := Nat.lt_of_lt_of_eq t.isLt N_1
  have hi := index1_7 t
  have hy : (y 0).val < 512 := (y 0).isLt
  rw [after1_7]
  show out1 V c t y = _
  rw [col_eq y]
  refine (out1_eq hx hs hq hA ha hB hb hH t (y 0) (by omega)).trans ?_
  refine congrArg (least X A a B b H) (Fin.ext ?_)
  show 512 * t.val + (y 0).val = (cfg1.win 7).index t 0 * 512 + 1 * (y 0).val
  rw [hi]; simp; omega

end

end Cert.KernelIdeal.MainArray

end
-- ==== Proof.RefStats.lean ====
/- What the reference computes, first half, at real arguments: a column's mean and deviation, and the normalised rows. -/
module

public import proofs.«01_k».proof.Proof.Extended
public import proofs.«01_k».proof.Proof.Gen.ReferenceIdeal.Read

@[expose] public section

noncomputable section

namespace Cert.RefValue

open Idealize.ShloMosaic Idealize.ShloMosaic.ValueIdx
open Cert.ReferenceIdeal Cert.ReferenceIdeal.Gen Cert.ReferenceIdeal.Read
open Cert.Maths Cert.Extended

/-- A matrix of real numbers as a buffer's contents, -/
abbrev lift2 {n m : ℕ} (X : Fin n → Fin m → ℝ) : (⟨2, ![n, m]⟩ : Shape).Idx → EReal := fun i => ((X (i 0) (i 1) : ℝ) : EReal)
/-- and a vector. -/
abbrev lift1 {n : ℕ} (a : Fin n → ℝ) : (⟨1, ![n]⟩ : Shape).Idx → EReal := fun i => ((a (i 0) : ℝ) : EReal)

variable (X : Fin 16384 → Fin 256 → ℝ)

/-- The batch's mean. -/
theorem v2_eq (i : S256.Idx) : val_main_v2 (F := Ideal) (lift2 X) i = ((mean X (i 0) : ℝ) : EReal) := by
  rw [val_main_v2_apply, val_main_v0_apply, val_main_v1_apply, val_main_cst_apply, val_main_cst_0_apply]
  simp only [Ideal.ofBits_def, Ideal.hostDivf_def, Ideal.ofBits_zero_f32, lit_n, zero_add]
  rw [coe_sum, coe_div _ (by norm_num)]; rfl

/-- The mean again, as the variance takes it. -/
theorem c3_eq (i : S1x256.Idx) : val_main_call0_v3 (F := Ideal) (lift2 X) i = ((mean X (i 1) : ℝ) : EReal) := by
  rw [val_main_call0_v3_apply, val_main_call0_v1_apply, val_main_call0_v0_apply, val_main_call0_v2_apply,
    val_main_call0_cst_apply, val_main_call0_cst_0_apply]
  simp only [Ideal.ofBits_def, Ideal.hostDivf_def, Ideal.ofBits_zero_f32, lit_n, zero_add]
  rw [coe_sum, coe_div _ (by norm_num)]; rfl

/-- An entry's squared distance from the mean. -/
theorem c6_eq (i : S16384x256.Idx) : val_main_call0_v6 (F := Ideal) (lift2 X) i
    = (((X (i 0) (i 1) - mean X (i 1)) * (X (i 0) (i 1) - mean X (i 1)) : ℝ) : EReal) := by
  rw [val_main_call0_v6_apply, val_main_call0_v5_apply, val_main_call0_v4_apply, c3_eq]
  simp only [Ideal.mulf_def, Ideal.subf_def]
  rw [← EReal.coe_sub, ← EReal.coe_mul]; rfl

/-- One less than the batch's count. -/
theorem c8_eq (i : S_.Idx) : val_main_call0_v8 (F := Ideal) i = ((16383 : ℝ) : EReal) := by
  rw [val_main_call0_v8_apply, val_main_call0_cst_1_apply, val_main_call0_v7_apply, val_main_c_apply]
  simp only [Ideal.ofBits_def, Ideal.subf_def, lit_n]
  rw [show FloatOps.sitofp (F := Ideal) .f32 (1#32 : BitVec 32) = ((1 : ℝ) : EReal) from by
      show (((1#32 : BitVec 32).toInt : ℝ) : EReal) = _; norm_num,
    ← EReal.coe_sub]
  norm_num

/-- The batch's variance. -/
theorem v3_eq (i : S256.Idx) : val_main_v3 (F := Ideal) (lift2 X) i = ((batchVar X (i 0) : ℝ) : EReal) := by
  unfold val_main_v3
  rw [select_apply, broadcastInDim_apply _ bcast_S_S256 _ i ix0 (fun a => a.elim0), val_main_call0_v12_apply, c8_eq,
    val_main_call0_cst_3_apply]
  rw [show FloatOps.cmpf (F := Ideal) (φ := .f32) .ogt ((16383 : ℝ) : EReal) (FloatOps.ofBits .f32 0x00000000#32) = 1#1 from by
      rw [Ideal.cmpf_def, Ideal.ofBits_def, Ideal.ofBits_zero_f32]; unfold Ideal.cmp
      simp only [EReal.coe_pos]; norm_num; rfl,
    select_one, val_main_call0_v11_apply, val_main_call0_v9_apply, val_main_call0_v10_apply, c8_eq, val_main_call0_cst_2_apply]
  simp only [c6_eq, Ideal.ofBits_def, Ideal.hostDivf_def, Ideal.ofBits_zero_f32, zero_add]
  rw [coe_sum, coe_div _ (by norm_num)]; rfl

/-- The mean less nothing. -/
theorem v5_eq (i : S256.Idx) : val_main_v5 (F := Ideal) (lift2 X) i = ((mean X (i 0) : ℝ) : EReal) := by
  rw [val_main_v5_apply, v2_eq, val_main_v4_apply, val_main_cst_1_apply]
  simp only [Ideal.subf_def, Ideal.ofBits_def, Ideal.ofBits_zero_f32, sub_zero]

/-- The updated mean. -/
theorem v11_eq (i : S256.Idx) : val_main_v11 (F := Ideal) (lift2 X) i = ((mean X (i 0) : ℝ) : EReal) := by
  rw [val_main_v11_apply, val_main_v10_apply, val_main_v9_apply, val_main_v7_apply, v5_eq, val_main_v6_apply, val_main_v8_apply,
    val_main_cst_2_apply, val_main_cst_3_apply, val_main_cst_4_apply]
  simp only [Ideal.ofBits_def, Ideal.hostDivf_def, Ideal.mulf_def, Ideal.addf_def, Ideal.ofBits_zero_f32, zero_add, lit_n]
  rw [← EReal.coe_mul, coe_div _ (by norm_num)]
  exact congrArg Real.toEReal (mul_div_cancel_right₀ _ (by norm_num))

/-- The updated variance. -/
theorem v25_eq (i : S256.Idx) : val_main_v25 (F := Ideal) (lift2 X) i = ((newVar X (i 0) : ℝ) : EReal) := by
  rw [val_main_v25_apply, val_main_v23_apply, val_main_v15_apply, val_main_v14_apply, val_main_v13_apply, v3_eq, val_main_v12_apply,
    val_main_v22_apply, val_main_v20_apply, val_main_v18_apply, val_main_v16_apply, v5_eq, val_main_v17_apply, val_main_v19_apply,
    val_main_v21_apply, val_main_v24_apply, val_main_cst_5_apply, val_main_cst_6_apply, val_main_cst_7_apply, val_main_cst_8_apply,
    val_main_cst_9_apply, val_main_cst_10_apply]
  simp only [Ideal.ofBits_def, Ideal.hostDivf_def, Ideal.mulf_def, Ideal.addf_def, lit_n, lit_e4]
  simp only [← EReal.coe_mul, ← EReal.coe_add]
  rw [coe_div _ (by norm_num), ← EReal.coe_add, coe_div _ (by norm_num)]
  exact congrArg Real.toEReal (by unfold newVar; rw [mul_div_cancel_right₀ _ (by norm_num : (16384 : ℝ) ≠ 0)])

/-- The deviation. -/
theorem v31_eq (i : S256.Idx) : val_main_v31 (F := Ideal) (lift2 X) i = ((dev X (i 0) : ℝ) : EReal) := by
  rw [val_main_v31_apply, val_main_v30_apply, v25_eq, val_main_v29_apply, val_main_cst_11_apply]
  simp only [Ideal.ofBits_def, Ideal.addf_def, Ideal.hostUnary_sqrt_def, lit_e8]
  rw [← EReal.coe_add]
  exact coe_sqrt (newVar_pos X (i 0))

/-- The normalised rows. -/
theorem v34_eq (i : S16384x256.Idx) : val_main_v34 (F := Ideal) (lift2 X) i
    = (((X (i 0) (i 1) - mean X (i 1)) / dev X (i 1) : ℝ) : EReal) := by
  rw [val_main_v34_apply, val_main_v28_apply, val_main_v27_apply, val_main_v26_apply, v11_eq, val_main_v33_apply, val_main_v32_apply,
    v31_eq]
  simp only [Ideal.subf_def, Ideal.hostDivf_def]
  rw [← EReal.coe_sub]
  exact coe_div _ (dev_pos X (i 1)).ne'

end Cert.RefValue

end
-- ==== Proof.RefDistance.lean ====
/- What the reference computes, second half, at real arguments: the embedding, the distances and the least of them. -/
module

public import proofs.«01_k».proof.Proof.RefStats

@[expose] public section

noncomputable section

namespace Cert.RefValue

open Idealize.ShloMosaic Idealize.ShloMosaic.ValueIdx
open Cert.ReferenceIdeal Cert.ReferenceIdeal.Gen Cert.ReferenceIdeal.Read
open Cert.Maths Cert.Extended

variable (X : Fin 16384 → Fin 256 → ℝ) (A : Fin 256 → Fin 512 → ℝ) (a : Fin 512 → ℝ) (B : Fin 512 → Fin 512 → ℝ)
  (b : Fin 512 → ℝ) (H : Fin 500 → Fin 512 → ℝ)

/-- The first product. -/
theorem v35_eq (i : S16384x512.Idx) : val_main_v35 (F := Ideal) (lift2 X) (lift2 A) i
    = ((∑ d, (X (i 0) d - mean X d) / dev X d * A d (i 1) : ℝ) : EReal) := by
  rw [val_main_v35_apply]
  simp only [v34_eq, lift2, ← EReal.coe_mul]
  exact coe_sum _ _

/-- The hidden layer. -/
theorem v39_eq (i : S16384x512.Idx) : val_main_v39 (F := Ideal) (lift2 X) (lift2 A) (lift1 a) i
    = ((hidden X A a (i 0) (i 1) : ℝ) : EReal) := by
  rw [val_main_v39_apply, val_main_v38_apply, v35_eq, val_main_v37_apply, val_main_v36_apply, val_main_call1_v0_apply,
    val_main_call1_cst_apply]
  simp only [Ideal.ofBits_def, Ideal.addf_def, Ideal.maximumf_def, Ideal.ofBits_zero_f32, ← EReal.coe_zero]
  rw [lift1, ← EReal.coe_add, coe_max]; rfl

/-- The embedding. -/
theorem v43_eq (i : S16384x512.Idx) : val_main_v43 (F := Ideal) (lift2 X) (lift2 A) (lift1 a) (lift2 B) (lift1 b) i
    = ((embed X A a B b (i 0) (i 1) : ℝ) : EReal) := by
  rw [val_main_v43_apply, val_main_v40_apply, val_main_v42_apply, val_main_v41_apply]
  simp only [v39_eq, lift2, lift1, ← EReal.coe_mul, Ideal.addf_def]
  rw [coe_sum, ← EReal.coe_add]; rfl

/-- An embedding's squared length, -/
theorem v45_eq (i : S16384.Idx) : val_main_v45 (F := Ideal) (lift2 X) (lift2 A) (lift1 a) (lift2 B) (lift1 b) i
    = ((len (embed X A a B b (i 0)) : ℝ) : EReal) := by
  rw [val_main_v45_apply, val_main_cst_12_apply]
  simp only [val_main_v44_apply, v43_eq, Ideal.ofBits_def, Ideal.mulf_def, Ideal.ofBits_zero_f32, zero_add, ← EReal.coe_mul]
  exact coe_sum _ _

/-- a history row's, -/
theorem v48_eq (i : S500.Idx) : val_main_v48 (F := Ideal) (lift2 H) i
    = ((∑ k, H (i 0) k * H (i 0) k : ℝ) : EReal) := by
  rw [val_main_v48_apply, val_main_cst_13_apply]
  simp only [val_main_v47_apply, lift2, Ideal.ofBits_def, Ideal.mulf_def, Ideal.ofBits_zero_f32, zero_add, ← EReal.coe_mul]
  exact coe_sum _ _

/-- and their product. -/
theorem v54_eq (i : S16384x500.Idx) :
    val_main_v54 (F := Ideal) (lift2 X) (lift2 A) (lift1 a) (lift2 B) (lift1 b) (lift2 H) i
      = ((∑ k, embed X A a B b (i 0) k * H (i 1) k : ℝ) : EReal) := by
  rw [val_main_v54_apply]
  simp only [v43_eq, val_main_v53_apply, lift2, ← EReal.coe_mul]
  exact coe_sum _ _

/-- The distance from an embedding to a history row. -/
theorem v60_eq (i : S16384x500.Idx) :
    val_main_v60 (F := Ideal) (lift2 X) (lift2 A) (lift1 a) (lift2 B) (lift1 b) (lift2 H) i
      = root (((len (embed X A a B b (i 0)) + ∑ k, H (i 1) k * H (i 1) k)
          - 2 * ∑ k, embed X A a B b (i 0) k * H (i 1) k : ℝ) : EReal) := by
  rw [val_main_v60_apply, val_main_v59_apply, val_main_v57_apply, val_main_v52_apply, val_main_v50_apply, val_main_v46_apply,
    v45_eq, val_main_v51_apply, val_main_v49_apply, v48_eq, val_main_v56_apply, val_main_v55_apply, v54_eq, val_main_v58_apply,
    val_main_cst_14_apply, val_main_cst_15_apply]
  simp only [Ideal.ofBits_def, Ideal.addf_def, Ideal.subf_def, Ideal.mulf_def, Ideal.maximumf_def, Ideal.hostUnary_sqrt_def,
    lit_two, lit_e12]
  rw [← EReal.coe_add, ← EReal.coe_mul, ← EReal.coe_sub]; rfl

/-- The least distance. -/
theorem v62_eq (i : S16384x1.Idx) :
    val_main_v62 (F := Ideal) (lift2 X) (lift2 A) (lift1 a) (lift2 B) (lift1 b) (lift2 H) i
      = Finset.univ.inf fun m : Fin 500 => root (((len (embed X A a B b (i 0)) + ∑ k, H m k * H m k)
          - 2 * ∑ k, embed X A a B b (i 0) k * H m k : ℝ) : EReal) := by
  rw [val_main_v62_apply]
  unfold val_main_v61
  rw [Host.reduce_eq_fold_single FloatOps.minimumf _ _ _ (by decide : Shape.Reduces S16384x500 [1] S16384) _ _,
    val_main_cst_16_apply, Ideal.ofBits_def, lit_top]
  refine Finset.fold_congr fun m _ => ?_
  exact v60_eq X A a B b H _

end Cert.RefValue

end
-- ==== Proof.PreFacts.lean ====
/- What the precondition says: every argument is real, and all but the batch lie within a thousand of zero. -/
module

public import proofs.«01_k».proof.Pre_bounded
public import proofs.«01_k».proof.Proof.RefDistance
public import Idealize.ShloMosaic.Lib.ReduceAll

@[expose] public section

set_option maxRecDepth 16384

noncomputable section

namespace Cert.PreFacts

open Idealize.ShloMosaic Idealize.ShloMosaic.ValueIdx
open Cert.Pre_bounded Cert.Pre_bounded.Facts
open Cert.Maths Cert.Extended

variable [Cert.Pre_bounded.Facts]

/-- A shape without axes has one index. -/
instance : Subsingleton S_.Idx := ⟨fun i j => funext fun a => a.elim0⟩

/-- An absolute value below infinity is a real's. -/
theorem real_of_lt (t : EReal) (h : max t (-t) < ⊤) : ∃ r : ℝ, t = ((r : ℝ) : EReal) := by
  induction t using EReal.rec with
  | bot => simp at h
  | coe r => exact ⟨r, rfl⟩
  | top => simp at h

/-- An absolute value within a thousand is a real's, and that real lies within a thousand. -/
theorem real_of_le (t : EReal) (h : max t (-t) ≤ ((1000 : ℝ) : EReal)) : ∃ r : ℝ, t = ((r : ℝ) : EReal) ∧ |r| ≤ 1000 := by
  obtain ⟨r, rfl⟩ := real_of_lt t (lt_of_le_of_lt h (EReal.coe_lt_top _))
  refine ⟨r, rfl, ?_⟩
  rw [← EReal.coe_neg, ← EReal.coe_strictMono.monotone.map_max, EReal.coe_le_coe_iff] at h
  exact h

/-- One entry's comparison with infinity, read. -/
theorem lt_of_bit {s : Shape} {x : FVec Ideal s .f32} {hb : S_.BroadcastsInDim s (![] : Fin 0 → Fin s.rank)} {i : s.Idx}
    (h : cmpf .olt (Host.absf x) (broadcastInDim s ![] hb (constant (F := Ideal) S_ .f32 0x7F800000#32)) i = 1#1) :
    ∃ r : ℝ, x i = ((r : ℝ) : EReal) := by
  refine real_of_lt _ ?_
  have h' : BitVec.ofBool (decide (max (x i) (-(x i)) < Ideal.ofBits .f32 0x7F800000#32)) = 1#1 := h
  rw [lit_top] at h'
  by_contra hn
  rw [decide_eq_false hn] at h'
  exact absurd h' (by decide)

/-- One entry's comparison with a thousand, read. -/
theorem le_of_bit {s : Shape} {x : FVec Ideal s .f32} {hb : S_.BroadcastsInDim s (![] : Fin 0 → Fin s.rank)} {i : s.Idx}
    (h : cmpf .ole (Host.absf x) (broadcastInDim s ![] hb (constant (F := Ideal) S_ .f32 0x447A0000#32)) i = 1#1) :
    ∃ r : ℝ, x i = ((r : ℝ) : EReal) ∧ |r| ≤ 1000 := by
  refine real_of_le _ ?_
  have h' : BitVec.ofBool (decide (max (x i) (-(x i)) ≤ Ideal.ofBits .f32 0x447A0000#32)) = 1#1 := h
  rw [lit_thousand] at h'
  by_contra hn
  rw [decide_eq_false hn] at h'
  exact absurd h' (by decide)

/-- The precondition, read: the arguments are matrices of reals within the bounds. -/
theorem bounded_read (x : FVec Ideal S16384x256 .f32) (w1 : FVec Ideal S256x512 .f32) (b1 : FVec Ideal S512 .f32)
    (w2 : FVec Ideal S512x512 .f32) (b2 : FVec Ideal S512 .f32) (h : FVec Ideal S500x512 .f32)
    (hp : Cert.Pre_bounded.fn (F := Ideal) x w1 b1 w2 b2 h = fun _ => 1#1) :
    (∀ i, ∃ r : ℝ, x i = ((r : ℝ) : EReal))
      ∧ (∀ i, ∃ r : ℝ, w1 i = ((r : ℝ) : EReal) ∧ |r| ≤ 1000)
      ∧ (∀ i, ∃ r : ℝ, b1 i = ((r : ℝ) : EReal) ∧ |r| ≤ 1000)
      ∧ (∀ i, ∃ r : ℝ, w2 i = ((r : ℝ) : EReal) ∧ |r| ≤ 1000)
      ∧ (∀ i, ∃ r : ℝ, b2 i = ((r : ℝ) : EReal) ∧ |r| ≤ 1000)
      ∧ ∀ i, ∃ r : ℝ, h i = ((r : ℝ) : EReal) ∧ |r| ≤ 1000 := by
  have hp0 := congrFun hp ix0
  unfold Cert.Pre_bounded.fn Cert.Pre_bounded.fn_part1 at hp0
  obtain ⟨hp0, h5⟩ := IntOp.andi_eq_one.mp hp0
  obtain ⟨hp0, h4⟩ := IntOp.andi_eq_one.mp hp0
  obtain ⟨hp0, h3⟩ := IntOp.andi_eq_one.mp hp0
  obtain ⟨hp0, h2⟩ := IntOp.andi_eq_one.mp hp0
  obtain ⟨h0, h1⟩ := IntOp.andi_eq_one.mp hp0
  exact ⟨fun i => lt_of_bit (Host.reduce_andi_all _ _ _ _ _ h0 i), fun i => le_of_bit (Host.reduce_andi_all _ _ _ _ _ h1 i),
    fun i => le_of_bit (Host.reduce_andi_all _ _ _ _ _ h2 i), fun i => le_of_bit (Host.reduce_andi_all _ _ _ _ _ h3 i),
    fun i => le_of_bit (Host.reduce_andi_all _ _ _ _ _ h4 i), fun i => le_of_bit (Host.reduce_andi_all _ _ _ _ _ h5 i)⟩

end Cert.PreFacts

end
-- ==== Proof.Equation.lean ====
/- The equation: under the precondition the kernel's result is the reference's. -/
module

public import proofs.«01_k».proof.Defs
public import proofs.«01_k».proof.Proof.HostValue
public import proofs.«01_k».proof.Proof.MainArray
public import proofs.«01_k».proof.Proof.PreFacts
public import proofs.«01_k».proof.Proof.RefDistance
public import proofs.«01_k».proof.Proof.Gen.Pre_bounded
public import proofs.«01_k».proof.Proof.Gen.ReferenceIdeal.Run

@[expose] public section

set_option maxRecDepth 16384

noncomputable section

namespace Cert.Equation

open Idealize.ShloMosaic Idealize.ShloMosaic.ValueIdx Idealize.ShloMosaic.TcCoe
open Cert.KernelIdeal Cert.KernelIdeal.Gen Cert.KernelIdeal.Regions Cert.KernelIdeal.Run
open Cert.KernelIdeal.HostValue Cert.KernelIdeal.MainArray
open Cert.Maths Cert.Extended Cert.RefValue

/-- A matrix of reals is given by its entries, -/
theorem eq_lift2 {n k : ℕ} {x : (⟨2, ![n, k]⟩ : Shape).Idx → EReal} {X : Fin n → Fin k → ℝ}
    (h : ∀ i j, x (ix2 i j) = ((X i j : ℝ) : EReal)) : x = lift2 X :=
  funext fun y => (congrArg x (eq_ix2 y)).trans (h (y 0) (y 1))

/-- and so is a vector. -/
theorem eq_lift1 {n : ℕ} {x : (⟨1, ![n]⟩ : Shape).Idx → EReal} {X : Fin n → ℝ}
    (h : ∀ i, x (ix1 i) = ((X i : ℝ) : EReal)) : x = lift1 X :=
  funext fun y => (congrArg x (eq_ix1 y)).trans (h (y 0))

/-- Under the precondition the distance call's array is the reference's last value of the same arguments. -/
theorem result_eq (m : (ℓ : Loc nD τ sig) → Buf (Elt Ideal) ℓ) (ρ : Dev nD → PrngReg) (c : Dev nD)
    (hp : Cert.Pre_bounded.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    (dat1 (V2 m ρ) c).arrAt 7 cfg1.N
      = Cert.ReferenceIdeal.Read.val_main_v62 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  obtain ⟨h0, h1, h2, h3, h4, h5⟩ := Cert.PreFacts.bounded_read _ _ _ _ _ _ hp
  choose X0 hX0 using h0
  choose A0 hA0 hA1 using h1
  choose a0 ha0 ha1 using h2
  choose B0 hB0 hB1 using h3
  choose b0 hb0 hb1 using h4
  choose H0 hH0 hH1 using h5
  have ex := eq_lift2 (X := fun i d => X0 (ix2 i d)) fun i d => hX0 (ix2 i d)
  have eA := eq_lift2 (X := fun d j => A0 (ix2 d j)) fun d j => hA0 (ix2 d j)
  have ea := eq_lift1 (X := fun j => a0 (ix1 j)) fun j => ha0 (ix1 j)
  have eB := eq_lift2 (X := fun j k => B0 (ix2 j k)) fun j k => hB0 (ix2 j k)
  have eb := eq_lift1 (X := fun k => b0 (ix1 k)) fun k => hb0 (ix1 k)
  have eH := eq_lift2 (X := fun k q => H0 (ix2 k q)) fun k q => hH0 (ix2 k q)
  refine (arr1 (V := V2 m ρ) (c := c)
    (fun i d => (congrFun (W2_args m ρ c main_arg0 (by decide)) _).trans (hX0 (ix2 i d)))
    (V2_sum ρ ex) (V2_sq ρ ex)
    (fun d j => (congrFun (W2_args m ρ c main_arg1 (by decide)) _).trans (hA0 (ix2 d j)))
    (V2_bias1 ρ fun j => ha0 (ix1 j))
    (fun j k => (congrFun (W2_args m ρ c main_arg3 (by decide)) _).trans (hB0 (ix2 j k)))
    (V2_bias2 ρ fun k => hb0 (ix1 k))
    (V2_rows ρ fun k q => hH0 (ix2 k q))).trans ?_
  rw [ex, eA, ea, eB, eb, eH]
  funext i
  rw [v62_eq]
  exact root_inf_row (fun k => abs_embed_le (fun d j => hA1 _) (fun j => ha1 _) (fun j k => hB1 _) (fun k => hb1 _) _ k) fun k q => hH1 _

/-- The kernel and the reference end with equal results. -/
theorem algebraic : Cert.algebraic_KernelIdeal_ReferenceIdeal_pre_bounded (hKernelIdeal := Cert.KernelIdeal.Gen.facts)
    (hReferenceIdeal := Cert.ReferenceIdeal.Gen.facts) (hPre_bounded := Cert.Pre_bounded.Gen.facts) := fun m g m' g' hp hm => by
  refine ⟨fun c => (dat1 (V2 m g) c).arrAt 7 cfg1.N, (θ_run _ _ _).mono (fun _ h => h.1) (Cert.KernelIdeal.Run.run (F := Ideal) m g),
    (θ_run _ _ _).mono (fun _ h c => ⟨(h c).1.trans ?_, (h c).2⟩) (Cert.ReferenceIdeal.Value.run (F := Ideal) m' g')⟩
  obtain ⟨e0, e1, e2, e3, e4, e5⟩ := hm c
  rw [Cert.ReferenceIdeal.Read.val_main_v62_eq, e0, e1, e2, e3, e4, e5]
  exact (result_eq m g c (hp c)).symm

end Cert.Equation

end
-- ==== Proof.lean ====
module

public import proofs.«01_k».proof.Defs
public import proofs.«01_k».proof.Proof.Run
public import proofs.«01_k».proof.Proof.RunIdeal
public import proofs.«01_k».proof.Proof.Equation
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_bounded
public import proofs.«01_k».proof.Proof.Gen.KernelIdeal.Regions
public import Idealize.ShloMosaic.Adequacy
public import Idealize.ShloMosaic.Init

@[expose] public section

noncomputable section

namespace Cert.Proof

open Idealize.ShloMosaic Idealize.SL.Sem

/-- The kernel runs, leaves its arguments as given, and every semaphore counts zero. -/
theorem frame_kernel : Cert.quiescent_Kernel (hKernel := Cert.Kernel.Gen.facts) := fun m g _ =>
  (θ_run _ _ _).mono (fun _ h => ⟨fun c => (h.1 c).2, h.2⟩) (Cert.Kernel.Run.run (F := Bits) m g)

/-- So does its idealization, -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Run.run (F := Ideal) m g)

/-- and the reference, which has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- All the claims together. -/
theorem claim : Cert.Claim :=
  ⟨Cert.Kernel.Gen.facts, Cert.KernelIdeal.Gen.facts, Cert.ReferenceIdeal.Gen.facts, Cert.Pre_bounded.Gen.facts,
    frame_kernel, frame_ideal, fun m g _ => frame_ideal m g trivial, frame_reference, fun m g _ => frame_reference m g trivial,
    trivial, Cert.Equation.algebraic⟩

end Cert.Proof

end
